-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v12_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1024 : Shape := ⟨3, ![16, 2048, 1024]⟩
abbrev S1024x1024 : Shape := ⟨2, ![1024, 1024]⟩
abbrev S64x1024 : Shape := ⟨2, ![64, 1024]⟩
abbrev S64 : Shape := ⟨1, ![64]⟩
abbrev S1024x64 : Shape := ⟨2, ![1024, 64]⟩
abbrev S256x1024 : Shape := ⟨2, ![256, 1024]⟩
abbrev S1024x256 : Shape := ⟨2, ![1024, 256]⟩
abbrev S_ : Shape := ⟨0, ![]⟩
abbrev S192 : Shape := ⟨1, ![192]⟩
abbrev S256 : Shape := ⟨1, ![256]⟩
abbrev S1x256 : Shape := ⟨2, ![1, 256]⟩
abbrev S16x2048x64 : Shape := ⟨3, ![16, 2048, 64]⟩
abbrev S2048x1024 : Shape := ⟨2, ![2048, 1024]⟩
abbrev S2x1024x1024 : Shape := ⟨3, ![2, 1024, 1024]⟩
abbrev S2x1024x64 : Shape := ⟨3, ![2, 1024, 64]⟩
abbrev S1024x128 : Shape := ⟨2, ![1024, 128]⟩
abbrev S2048x256 : Shape := ⟨2, ![2048, 256]⟩
abbrev S2048x64 : Shape := ⟨2, ![2048, 64]⟩
abbrev S2x8x2048x64 : Shape := ⟨4, ![2, 8, 2048, 64]⟩
abbrev S2x2048x8x64 : Shape := ⟨4, ![2, 2048, 8, 64]⟩
abbrev S2x16384x64 : Shape := ⟨3, ![2, 16384, 64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S8x8 : Shape := ⟨2, ![8, 8]⟩
abbrev S8x8x64 : Shape := ⟨3, ![8, 8, 64]⟩
abbrev S8x512 : Shape := ⟨2, ![8, 512]⟩
abbrev S16x64x64 : Shape := ⟨3, ![16, 64, 64]⟩
abbrev S1x2048x64 : Shape := ⟨3, ![1, 2048, 64]⟩
abbrev S256x512 : Shape := ⟨2, ![256, 512]⟩
abbrev S1x512 : Shape := ⟨2, ![1, 512]⟩
abbrev S8x256x1024 : Shape := ⟨3, ![8, 256, 1024]⟩
abbrev S8x64x64 : Shape := ⟨3, ![8, 64, 64]⟩
abbrev S64x512 : Shape := ⟨2, ![64, 512]⟩
abbrev S1x8x64 : Shape := ⟨3, ![1, 8, 64]⟩
abbrev S8x64 : Shape := ⟨2, ![8, 64]⟩
abbrev S512 : Shape := ⟨1, ![512]⟩
abbrev S64x64 : Shape := ⟨2, ![64, 64]⟩
abbrev S1x64x64 : Shape := ⟨3, ![1, 64, 64]⟩
abbrev S256x64 : Shape := ⟨2, ![256, 64]⟩

abbrev nBuf : Space → Nat
  | .hbm => 42
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64, .f32⟩
  | .hbm, ⟨7, _⟩ => ⟨S64, .f32⟩
  | .hbm, ⟨8, _⟩ => ⟨S1024x64, .f32⟩
  | .hbm, ⟨9, _⟩ => ⟨S1024x1024, .f32⟩
  | .hbm, ⟨10, _⟩ => ⟨S256x1024, .f32⟩
  | .hbm, ⟨11, _⟩ => ⟨S1024x256, .f32⟩
  | .hbm, ⟨12, _⟩ => ⟨S_, .f32⟩
  | .hbm, ⟨13, _⟩ => ⟨S192, .f32⟩
  | .hbm, ⟨14, _⟩ => ⟨S256, .f32⟩
  | .hbm, ⟨15, _⟩ => ⟨S1x256, .f32⟩
  | .hbm, ⟨16, _⟩ => ⟨S16x2048x64, .f32⟩
  | .hbm, ⟨17, _⟩ => ⟨S16x2048x64, .f32⟩
  | .hbm, ⟨18, _⟩ => ⟨S2048x1024, .f32⟩
  | .hbm, ⟨19, _⟩ => ⟨S2048x1024, .f32⟩
  | .hbm, ⟨20, _⟩ => ⟨S2x8x2048x64, .f32⟩
  | .hbm, ⟨21, _⟩ => ⟨S2x2048x8x64, .f32⟩
  | .hbm, ⟨22, _⟩ => ⟨S2x16384x64, .f32⟩
  | .hbm, ⟨23, _⟩ => ⟨S2x8x2048x64, .f32⟩
  | .hbm, ⟨24, _⟩ => ⟨S2x2048x8x64, .f32⟩
  | .hbm, ⟨25, _⟩ => ⟨S2x16384x64, .f32⟩
  | .hbm, ⟨26, _⟩ => ⟨S1x64, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S8x8, .i32⟩
  | .hbm, ⟨31, _⟩ => ⟨S8x8, .i32⟩
  | .hbm, ⟨32, _⟩ => ⟨S_, .i32⟩
  | .hbm, ⟨33, _⟩ => ⟨S8x8, .i32⟩
  | .hbm, ⟨34, _⟩ => ⟨S8x8, .i32⟩
  | .hbm, ⟨35, _⟩ => ⟨S8x8, .i1⟩
  | .hbm, ⟨36, _⟩ => ⟨S8x8, .f32⟩
  | .hbm, ⟨37, _⟩ => ⟨S8x8x64, .f32⟩
  | .hbm, ⟨38, _⟩ => ⟨S8x512, .f32⟩
  | .hbm, ⟨39, _⟩ => ⟨S64x1024, .f32⟩
  | .hbm, ⟨40, _⟩ => ⟨S16x2048x1024, .f32⟩
  | .hbm, ⟨41, _⟩ => ⟨S16x64x64, .f32⟩
  | .local _ .vmem, ⟨0, _⟩ => ⟨S2x1024x1024, .f32⟩
  | .local _ .vmem, ⟨1, _⟩ => ⟨S2x1024x1024, .f32⟩
  | .local _ .vmem, ⟨2, _⟩ => ⟨S1024x1024, .f32⟩
  | .local _ .vmem, ⟨3, _⟩ => ⟨S1024x256, .f32⟩
  | .local _ .vmem, ⟨4, _⟩ => ⟨S1x256, .f32⟩
  | .local _ .vmem, ⟨5, _⟩ => ⟨S2x1024x64, .f32⟩
  | .local _ .vmem, ⟨6, _⟩ => ⟨S2x1024x64, .f32⟩
  | .local _ .vmem, ⟨7, _⟩ => ⟨S2x1024x64, .f32⟩
  | .local _ .vmem, ⟨8, _⟩ => ⟨S2x1024x64, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1x512, .f32⟩
  | .local _ .vmem, ⟨22, _⟩ => ⟨S1x512, .f32⟩
  | .local _ .vmem, ⟨23, _⟩ => ⟨S8x512, .f32⟩
  | .local _ .vmem, ⟨24, _⟩ => ⟨S64x1024, .f32⟩
  | .local _ .vmem, ⟨25, _⟩ => ⟨S8x256x1024, .f32⟩
  | .local _ .vmem, ⟨26, _⟩ => ⟨S8x256x1024, .f32⟩
  | .local _ .vmem, ⟨27, _⟩ => ⟨S8x64x64, .f32⟩
  | .local _ .vmem, ⟨28, _⟩ => ⟨S8x64x64, .f32⟩
  | .local _ .vmem, ⟨29, _⟩ => ⟨S64x512, .f32⟩
  | .local _ .vmem, ⟨30, _⟩ => ⟨S256x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem7_1 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 8], ![false, false]⟩

@[reducible] def k1_t1_loop : Scf.Loop 32 :=
  let c0_i32_6 : BitVec 32 := 0#32
  let c256_i32 : BitVec 32 := 256#32
  let v8 : BitVec 32 := Scalar.addi c0_i32_6 c256_i32
  let c1_i32 : BitVec 32 := 1#32
  ⟨c0_i32_6, v8, c1_i32⟩
def k1_off1 (k1_t1 : Fin k1_t1_loop.trips) : Fin 3 → Nat :=
  let c0_25 : Index := 0#32
  let c0_i32_6 : BitVec 32 := 0#32
  let c1_i32 : BitVec 32 := 1#32
  let arg13 : BitVec 32 := Scf.iv c0_i32_6 c1_i32 k1_t1
  let c8_i32 : BitVec 32 := 8#32
  let v30 : BitVec 32 := Scalar.muli arg13 c8_i32
  let v31 : Index := Scalar.indexCast v30
  let c0_26 : Index := 0#32
  ![0, v31.toNat, 0]
def k1_off2 (k1_t1 : Fin k1_t1_loop.trips) : Fin 2 → Nat :=
  let c0_i32_6 : BitVec 32 := 0#32
  let c1_i32 : BitVec 32 := 1#32
  let arg13 : BitVec 32 := Scf.iv c0_i32_6 c1_i32 k1_t1
  let v38 : Index := Scalar.indexCast arg13
  let c0_29 : Index := 0#32
  ![v38.toNat, 0]
def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S8x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S8x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x64x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S16x2048x1024 : Shape := ⟨3, ![16, 2048, 1024]⟩
abbrev S1024x1024 : Shape := ⟨2, ![1024, 1024]⟩
abbrev S64x1024 : Shape := ⟨2, ![64, 1024]⟩
abbrev S64 : Shape := ⟨1, ![64]⟩
abbrev S1024x64 : Shape := ⟨2, ![1024, 64]⟩
abbrev S_ : Shape := ⟨0, ![]⟩
abbrev S64x16x2048 : Shape := ⟨3, ![64, 16, 2048]⟩
abbrev S2048x16x64 : Shape := ⟨3, ![2048, 16, 64]⟩
abbrev S16x64x64 : Shape := ⟨3, ![16, 64, 64]⟩
abbrev S1x16x64 : Shape := ⟨3, ![1, 16, 64]⟩
abbrev S16x64 : Shape := ⟨2, ![16, 64]⟩
abbrev S1x64 : Shape := ⟨2, ![1, 64]⟩
abbrev S16x64x1 : Shape := ⟨3, ![16, 64, 1]⟩
abbrev S16x1x64 : Shape := ⟨3, ![16, 1, 64]⟩
abbrev S16x2048x64 : Shape := ⟨3, ![16, 2048, 64]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64, .f32⟩
  | .hbm, ⟨7, _⟩ => ⟨S64, .f32⟩
  | .hbm, ⟨8, _⟩ => ⟨S1024x64, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S64x16x2048, .f32⟩
  | .hbm, ⟨20, _⟩ => ⟨S2048x16x64, .f32⟩
  | .hbm, ⟨21, _⟩ => ⟨S64x16x2048, .f32⟩
  | .hbm, ⟨22, _⟩ => ⟨S2048x16x64, .f32⟩
  | .hbm, ⟨23, _⟩ => ⟨S64x16x2048, .f32⟩
  | .hbm, ⟨24, _⟩ => ⟨S2048x16x64, .f32⟩
  | .hbm, ⟨25, _⟩ => ⟨S64x16x2048, .f32⟩
  | .hbm, ⟨26, _⟩ => ⟨S2048x16x64, .f32⟩
  | .hbm, ⟨27, _⟩ => ⟨S_, .f32⟩
  | .hbm, ⟨28, _⟩ => ⟨S16x64x64, .f32⟩
  | .hbm, ⟨29, _⟩ => ⟨S_, .f32⟩
  | .hbm, ⟨30, _⟩ => ⟨S2048x16x64, .f32⟩
  | .hbm, ⟨31, _⟩ => ⟨S_, .i32⟩
  | .hbm, ⟨32, _⟩ => ⟨S2048x16x64, .f32⟩
  | .hbm, ⟨33, _⟩ => ⟨S2048x16x64, .f32⟩
  | .hbm, ⟨34, _⟩ => ⟨S2048x16x64, .f32⟩
  | .hbm, ⟨35, _⟩ => ⟨S2048x16x64, .f32⟩
  | .hbm, ⟨36, _⟩ => ⟨S64, .f32⟩
  | .hbm, ⟨37, _⟩ => ⟨S64, .f32⟩
  | .hbm, ⟨38, _⟩ => ⟨S_, .i32⟩
  | .hbm, ⟨39, _⟩ => ⟨S16x64x64, .f32⟩
  | .hbm, ⟨40, _⟩ => ⟨S2048x16x64, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1x16x64, .f32⟩
  | .hbm, ⟨46, _⟩ => ⟨S16x64, .f32⟩
  | .hbm, ⟨47, _⟩ => ⟨S_, .i32⟩
  | .hbm, ⟨48, _⟩ => ⟨S_, .i32⟩
  | .hbm, ⟨49, _⟩ => ⟨S1x16x64, .f32⟩
  | .hbm, ⟨50, _⟩ => ⟨S16x64, .f32⟩
  | .hbm, ⟨51, _⟩ => ⟨S_, .i32⟩
  | .hbm, ⟨52, _⟩ => ⟨S_, .i32⟩
  | .hbm, ⟨53, _⟩ => ⟨S1x16x64, .f32⟩
  | .hbm, ⟨54, _⟩ => ⟨S16x64, .f32⟩
  | .hbm, ⟨55, _⟩ => ⟨S_, .i32⟩
  | .hbm, ⟨56, _⟩ => ⟨S_, .i32⟩
  | .hbm, ⟨57, _⟩ => ⟨S1x16x64, .f32⟩
  | .hbm, ⟨58, _⟩ => ⟨S16x64, .f32⟩
  | .hbm, ⟨59, _⟩ => ⟨S16x64, .f32⟩
  | .hbm, ⟨60, _⟩ => ⟨S1x64, .f32⟩
  | .hbm, ⟨61, _⟩ => ⟨S16x64, .f32⟩
  | .hbm, ⟨62, _⟩ => ⟨S16x64, .f32⟩
  | .hbm, ⟨63, _⟩ => ⟨S16x64, .f32⟩
  | .hbm, ⟨64, _⟩ => ⟨S1x64, .f32⟩
  | .hbm, ⟨65, _⟩ => ⟨S16x64, .f32⟩
  | .hbm, ⟨66, _⟩ => ⟨S16x64, .f32⟩
  | .hbm, ⟨67, _⟩ => ⟨S16x64, .f32⟩
  | .hbm, ⟨68, _⟩ => ⟨S16x64, .f32⟩
  | .hbm, ⟨69, _⟩ => ⟨S_, .f32⟩
  | .hbm, ⟨70, _⟩ => ⟨S16x64, .f32⟩
  | .hbm, ⟨71, _⟩ => ⟨S16x64, .f32⟩
  | .hbm, ⟨72, _⟩ => ⟨S_, .f32⟩
  | .hbm, ⟨73, _⟩ => ⟨S16x64, .f32⟩
  | .hbm, ⟨74, _⟩ => ⟨S16x64, .f32⟩
  | .hbm, ⟨75, _⟩ => ⟨S16x64x1, .f32⟩
  | .hbm, ⟨76, _⟩ => ⟨S16x64x64, .f32⟩
  | .hbm, ⟨77, _⟩ => ⟨S16x64x64, .f32⟩
  | .hbm, ⟨78, _⟩ => ⟨S_, .f32⟩
  | .hbm, ⟨79, _⟩ => ⟨S16x64x1, .f32⟩
  | .hbm, ⟨80, _⟩ => ⟨S16x64x1, .f32⟩
  | .hbm, ⟨81, _⟩ => ⟨S16x64x1, .f32⟩
  | .hbm, ⟨82, _⟩ => ⟨S16x1x64, .f32⟩
  | .hbm, ⟨83, _⟩ => ⟨S16x64x64, .f32⟩
  | .hbm, ⟨84, _⟩ => ⟨S16x64x64, .f32⟩
  | .hbm, ⟨85, _⟩ => ⟨S16x64x64, .f32⟩
  | .hbm, ⟨86, _⟩ => ⟨S16x64x64, .f32⟩
  | .hbm, ⟨87, _⟩ => ⟨S16x64x64, .f32⟩
  | .hbm, ⟨88, _⟩ => ⟨S16x64x64, .f32⟩
  | .hbm, ⟨89, _⟩ => ⟨S16x64, .f32⟩
  | .hbm, ⟨90, _⟩ => ⟨S16x64, .f32⟩
  | .hbm, ⟨91, _⟩ => ⟨S16x64, .f32⟩
  | .hbm, ⟨92, _⟩ => ⟨S_, .f32⟩
  | .hbm, ⟨93, _⟩ => ⟨S16x64, .f32⟩
  | .hbm, ⟨94, _⟩ => ⟨S16x64, .f32⟩
  | .hbm, ⟨95, _⟩ => ⟨S_, .f32⟩
  | .hbm, ⟨96, _⟩ => ⟨S16x64, .f32⟩
  | .hbm, ⟨97, _⟩ => ⟨S16x64, .f32⟩
  | .hbm, ⟨98, _⟩ => ⟨S16x64, .f32⟩
  | .hbm, ⟨99, _⟩ => ⟨S16x64, .f32⟩
  | .hbm, ⟨100, _⟩ => ⟨S1x16x64, .f32⟩
  | .hbm, ⟨101, _⟩ => ⟨S_, .i32⟩
  | .hbm, ⟨102, _⟩ => ⟨S_, .i32⟩
  | .hbm, ⟨103, _⟩ => ⟨S2048x16x64, .f32⟩
  | .hbm, ⟨104, _⟩ => ⟨S_, .i32⟩
  | .hbm, ⟨105, _⟩ => ⟨S_, .i32⟩
  | .hbm, ⟨106, _⟩ => ⟨S16x2048x64, .f32⟩
  | .hbm, ⟨107, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_c : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v12_3 : Ref sig .tc := ⟨.hbm, 35, rfl⟩
abbrev main_v12_4 : Ref sig .tc := ⟨.hbm, 36, rfl⟩
abbrev main_v12_5 : Ref sig .tc := ⟨.hbm, 37, rfl⟩
abbrev main_v12_6 : Ref sig .tc := ⟨.hbm, 38, rfl⟩
abbrev main_v12_7 : Ref sig .tc := ⟨.hbm, 39, rfl⟩
abbrev main_v12_8 : Ref sig .tc := ⟨.hbm, 40, rfl⟩
abbrev main_while0c_c_9 : Ref sig .tc := ⟨.hbm, 41, rfl⟩
abbrev main_while0c_v15 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_v0 : Ref sig .tc := ⟨.hbm, 45, rfl⟩
abbrev main_while0b_v15 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_v0 : Ref sig .tc := ⟨.hbm, 49, rfl⟩
abbrev main_while0b_v16 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_v0 : Ref sig .tc := ⟨.hbm, 53, rfl⟩
abbrev main_while0b_v17 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_v0 : Ref sig .tc := ⟨.hbm, 57, rfl⟩
abbrev main_while0b_v18 : Ref sig .tc := ⟨.hbm, 58, rfl⟩
abbrev main_while0b_v19 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_v28 : Ref sig .tc := ⟨.hbm, 68, rfl⟩
abbrev main_while0b_cst_9 : Ref sig .tc := ⟨.hbm, 69, rfl⟩
abbrev main_while0b_v29 : Ref sig .tc := ⟨.hbm, 70, rfl⟩
abbrev main_while0b_v30 : Ref sig .tc := ⟨.hbm, 71, rfl⟩
abbrev main_while0b_cst_10 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_cst_11 : Ref sig .tc := ⟨.hbm, 78, rfl⟩
abbrev main_while0b_v36 : Ref sig .tc := ⟨.hbm, 79, rfl⟩
abbrev main_while0b_v37 : Ref sig .tc := ⟨.hbm, 80, rfl⟩
abbrev main_while0b_v38 : Ref sig .tc := ⟨.hbm, 81, rfl⟩
abbrev main_while0b_v39 : Ref sig .tc := ⟨.hbm, 82, rfl⟩
abbrev main_while0b_v40 : Ref sig .tc := ⟨.hbm, 83, rfl⟩
abbrev main_while0b_v41 : Ref sig .tc := ⟨.hbm, 84, rfl⟩
abbrev main_while0b_v42 : Ref sig .tc := ⟨.hbm, 85, rfl⟩
abbrev main_while0b_v43 : Ref sig .tc := ⟨.hbm, 86, rfl⟩
abbrev main_while0b_v44 : Ref sig .tc := ⟨.hbm, 87, rfl⟩
abbrev main_while0b_v45 : Ref sig .tc := ⟨.hbm, 88, rfl⟩
abbrev main_while0b_v46 : Ref sig .tc := ⟨.hbm, 89, rfl⟩
abbrev main_while0b_call5_v0 : Ref sig .tc := ⟨.hbm, 90, rfl⟩
abbrev main_while0b_call5_v1 : Ref sig .tc := ⟨.hbm, 91, rfl⟩
abbrev main_while0b_call5_cst : Ref sig .tc := ⟨.hbm, 92, rfl⟩
abbrev main_while0b_call5_v2 : Ref sig .tc := ⟨.hbm, 93, rfl⟩
abbrev main_while0b_call5_v3 : Ref sig .tc := ⟨.hbm, 94, rfl⟩
abbrev main_while0b_call5_cst_0 : Ref sig .tc := ⟨.hbm, 95, rfl⟩
abbrev main_while0b_call5_v4 : Ref sig .tc := ⟨.hbm, 96, rfl⟩
abbrev main_while0b_call5_v5 : Ref sig .tc := ⟨.hbm, 97, rfl⟩
abbrev main_while0b_v47 : Ref sig .tc := ⟨.hbm, 98, rfl⟩
abbrev main_while0b_v48 : Ref sig .tc := ⟨.hbm, 99, rfl⟩
abbrev main_while0b_call6_v0 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_v49 : Ref sig .tc := ⟨.hbm, 103, rfl⟩
abbrev main_while0b_c_12 : Ref sig .tc := ⟨.hbm, 104, rfl⟩
abbrev main_while0b_v50 : Ref sig .tc := ⟨.hbm, 105, rfl⟩
abbrev main_v13 : Ref sig .tc := ⟨.hbm, 106, rfl⟩
abbrev main_v14 : Ref sig .tc := ⟨.hbm, 107, rfl⟩

abbrev nD : Nat := 1
abbrev τ : Topo := Topo.v7x

variable {F : FTy → Type} [FloatOps F]

abbrev main_while0_count : Scf.Loop 32 := ⟨0#32, 2048#32, 1#32⟩
-- ==== Proof.Region0.lean ====
/-
  Call 0 of the kernel, the projections: what one grid point leaves in each of its four output
  blocks, the body's triple, and the pipeline's proof data.  Everything is stated at a parameter `V`,
  the contents of the core's buffers when the call begins.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2x1024x1024 := Rect.unit (s := S2x1024x1024) ![0, 0, 0] S2x1024x1024.size inb_S2x1024x1024_S2x1024x1024_0_0_0
abbrev r0_1 : Rect S1024x1024 := Rect.unit (s := S1024x1024) ![0, 0] S1024x1024.size inb_S1024x1024_S1024x1024_0_0
abbrev r0_2 : Rect S1024x256 := Rect.unit (s := S1024x256) ![0, 0] S1024x256.size inb_S1024x256_S1024x256_0_0
abbrev r0_3 : Rect S1x256 := Rect.unit (s := S1x256) ![0, 0] S1x256.size inb_S1x256_S1x256_0_0
abbrev r0_4 : Rect S2x1024x64 := Rect.unit (s := S2x1024x64) ![0, 0, 0] S2x1024x64.size inb_S2x1024x64_S2x1024x64_0_0_0
abbrev r0_5 : Rect S1024x128 := Rect.unit (s := S1024x128) ![0, 0] S1024x128.size inb_S1024x128_S1024x128_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S2x1024x1024 .f32) (x1 : Vec F S1024x1024 .f32) (x2 : Vec F S1024x256 .f32) (x3 : Vec F S1x256 .f32) : Vec F S2x1024x64 .f32 :=
  View.canon [⟨r0_4, k0_pay2 (View.ld x0 r0_0) (View.ld x1 r0_1) (View.ld x2 r0_2) (View.ld x3 r0_3)⟩]

/-- Its stores tile the buffer (checked by evaluation), so they cover it. -/
theorem cover0_4 (p0 : Vec F S2x1024x64 .f32) (y : S2x1024x64.Idx) :
    ∃ pc ∈ ([⟨r0_4, p0⟩] : List (View.Piece (Elt F) S2x1024x64 .f32)), y ∈ pc.1.set :=
  View.cover_of_tiled [⟨r0_4, p0⟩] S2x1024x64.size (by rfl) y

/-- Window 5's staging buffer after the body, from the input windows' blocks: its 1 store as pieces, LAST
    FIRST (Lib/Pipeline/FrameBody.lean `View.canon`; the payloads are the skeleton's). -/
def out0_5 (x0 : Vec F S2x1024x1024 .f32) (x1 : Vec F S1024x1024 .f32) (x2 : Vec F S1024x256 .f32) (x3 : Vec F S1x256 .f32) : Vec F S2x1024x64 .f32 :=
  View.canon [⟨r0_4, k0_pay3 (View.ld x0 r0_0) (View.ld x1 r0_1) (View.ld x2 r0_2) (View.ld x3 r0_3)⟩]

/-- Its stores tile the buffer (checked by evaluation), so they cover it. -/
theorem cover0_5 (p0 : Vec F S2x1024x64 .f32) (y : S2x1024x64.Idx) :
    ∃ pc ∈ ([⟨r0_4, p0⟩] : List (View.Piece (Elt F) S2x1024x64 .f32)), y ∈ pc.1.set :=
  View.cover_of_tiled [⟨r0_4, p0⟩] S2x1024x64.size (by rfl) y

/-- Window 6's staging buffer after the body, from the input windows' blocks: its 1 store as pieces, LAST
    FIRST (Lib/Pipeline/FrameBody.lean `View.canon`; the payloads are the skeleton's). -/
def out0_6 (x0 : Vec F S2x1024x1024 .f32) (x1 : Vec F S1024x1024 .f32) (x2 : Vec F S1024x256 .f32) (x3 : Vec F S1x256 .f32) : Vec F S1024x128 .f32 :=
  View.canon [⟨r0_5, k0_pay4 (View.ld x0 r0_0) (View.ld x1 r0_1) (View.ld x2 r0_2) (View.ld x3 r0_3)⟩]

/-- Its stores tile the buffer (checked by evaluation), so they cover it. -/
theorem cover0_6 (p0 : Vec F S1024x128 .f32) (y : S1024x128.Idx) :
    ∃ pc ∈ ([⟨r0_5, p0⟩] : List (View.Piece (Elt F) S1024x128 .f32)), y ∈ pc.1.set :=
  View.cover_of_tiled [⟨r0_5, p0⟩] S1024x128.size (by rfl) y

/-- Window 7's staging buffer after the body, from the input windows' blocks: its 1 store as pieces, LAST
    FIRST (Lib/Pipeline/FrameBody.lean `View.canon`; the payloads are the skeleton's). -/
def out0_7 (x0 : Vec F S2x1024x1024 .f32) (x1 : Vec F S1024x1024 .f32) (x2 : Vec F S1024x256 .f32) (x3 : Vec F S1x256 .f32) : Vec F S1024x128 .f32 :=
  View.canon [⟨r0_5, k0_pay5 (View.ld x0 r0_0) (View.ld x1 r0_1) (View.ld x2 r0_2) (View.ld x3 r0_3)⟩]

/-- Its stores tile the buffer (checked by evaluation), so they cover it. -/
theorem cover0_7 (p0 : Vec F S1024x128 .f32) (y : S1024x128.Idx) :
    ∃ pc ∈ ([⟨r0_5, p0⟩] : List (View.Piece (Elt F) S1024x128 .f32)), y ∈ pc.1.set :=
  View.cover_of_tiled [⟨r0_5, p0⟩] S1024x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2x1024x1024 .f32) (harg1 : arg1.IsWhole) (arg2 : Memref sig .tc .vmem S1024x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S2x1024x64 .f32) (harg5 : arg5.IsWhole) (arg6 : Memref sig .tc .vmem S2x1024x64 .f32) (harg6 : arg6.IsWhole) (arg7 : Memref sig .tc .vmem S1024x128 .f32) (harg7 : arg7.IsWhole) (arg8 : Memref sig .tc .vmem S1024x128 .f32) (harg8 : arg8.IsWhole)
    (x0 : Vec F S2x1024x1024 .f32) (x1 : Vec F S1024x1024 .f32) (x2 : Vec F S1024x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3) ∗ owns (c : Thread nD τ) arg8 fullShare (out0_7 x0 x1 x2 x3)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
    | ⟨7, _⟩ => out0_7 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Scan.lean ====
/-
  The counted loop of call 1 (the scan): the carried state before each of its 256 trips and the rows of
  the output scratch stored so far, as explicit recursions over the trips, and the loop's invariant.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄S" => MT nD τ sig Unit (Elt F) ℕ (UR sig nD τ) ℕ

/-- The eight rows of a `2048 × 64` block that trip `k` reads: rows `8k … 8k+7`. -/
abbrev rKQ (k : Fin k1_t1_loop.trips) : Rect S1x2048x64 := Rect.unit (s := S1x2048x64) (k1_off1 k) S1x8x64.size (k1_off1_inb k)
/-- The row of a `256 × 512` block that trip `k` reads or writes: row `k`. -/
abbrev rRow (k : Fin k1_t1_loop.trips) : Rect S256x512 := Rect.unit (s := S256x512) (k1_off2 k) S1x512.size (k1_off2_inb k)

/-- The state after trip `k`, from the state `s` before it. -/
def tripS (x0 : Vec F S1x2048x64 .f32) (x2 x3 : Vec F S256x512 .f32) (v3 : Vec F S1x512 .f32) (v5 : Vec F S8x512 .f32)
    (k : Fin k1_t1_loop.trips) (s : Vec F S64x512 .f32) : Vec F S64x512 .f32 :=
  k1_pay11 v3 v5 s (View.ld x0 (rKQ k)) (View.ld x3 (rRow k)) (View.ld x2 (rRow k))

/-- The row trip `k` stores into the output scratch, from the state `s` before it. -/
def tripO (x0 x1 : Vec F S1x2048x64 .f32) (x2 x3 : Vec F S256x512 .f32) (v3 : Vec F S1x512 .f32) (v5 : Vec F S8x512 .f32)
    (k : Fin k1_t1_loop.trips) (s : Vec F S64x512 .f32) : Vec F S1x512 .f32 :=
  k1_pay12 v3 v5 s (View.ld x0 (rKQ k)) (View.ld x3 (rRow k)) (View.ld x2 (rRow k)) (View.ld x1 (rKQ k))

/-- The carried state before trip `k`, from the state `s` at the loop's entry. -/
def scanS (x0 : Vec F S1x2048x64 .f32) (x2 x3 : Vec F S256x512 .f32) (v3 : Vec F S1x512 .f32) (v5 : Vec F S8x512 .f32)
    (s : Vec F S64x512 .f32) : ℕ → Vec F S64x512 .f32
  | 0 => s
  | k + 1 => if h : k < k1_t1_loop.trips then tripS x0 x2 x3 v3 v5 ⟨k, h⟩ (scanS x0 x2 x3 v3 v5 s k) else scanS x0 x2 x3 v3 v5 s k

/-- The rows stored before trip `k`, last first. -/
def scanL (x0 x1 : Vec F S1x2048x64 .f32) (x2 x3 : Vec F S256x512 .f32) (v3 : Vec F S1x512 .f32) (v5 : Vec F S8x512 .f32)
    (s : Vec F S64x512 .f32) : ℕ → List (View.Piece (Elt F) S256x512 .f32)
  | 0 => []
  | k + 1 => if h : k < k1_t1_loop.trips then
      ⟨rRow ⟨k, h⟩, tripO x0 x1 x2 x3 v3 v5 ⟨k, h⟩ (scanS x0 x2 x3 v3 v5 s k)⟩ :: scanL x0 x1 x2 x3 v3 v5 s k
    else scanL x0 x1 x2 x3 v3 v5 s k

theorem scanS_succ (x0 : Vec F S1x2048x64 .f32) (x2 x3 : Vec F S256x512 .f32) (v3 : Vec F S1x512 .f32) (v5 : Vec F S8x512 .f32)
    (s : Vec F S64x512 .f32) (k : Fin k1_t1_loop.trips) :
    scanS x0 x2 x3 v3 v5 s (k.val + 1) = tripS x0 x2 x3 v3 v5 k (scanS x0 x2 x3 v3 v5 s k.val) := by
  rw [scanS]; exact dif_pos k.isLt

theorem scanL_succ (x0 x1 : Vec F S1x2048x64 .f32) (x2 x3 : Vec F S256x512 .f32) (v3 : Vec F S1x512 .f32) (v5 : Vec F S8x512 .f32)
    (s : Vec F S64x512 .f32) (k : Fin k1_t1_loop.trips) :
    scanL x0 x1 x2 x3 v3 v5 s (k.val + 1)
      = ⟨rRow k, tripO x0 x1 x2 x3 v3 v5 k (scanS x0 x2 x3 v3 v5 s k.val)⟩ :: scanL x0 x1 x2 x3 v3 v5 s k.val := by
  rw [scanL]; exact dif_pos k.isLt

theorem scanS_zero (x0 : Vec F S1x2048x64 .f32) (x2 x3 : Vec F S256x512 .f32) (v3 : Vec F S1x512 .f32) (v5 : Vec F S8x512 .f32)
    (s : Vec F S64x512 .f32) : scanS x0 x2 x3 v3 v5 s 0 = s := by rw [scanS]

theorem scanL_zero (x0 x1 : Vec F S1x2048x64 .f32) (x2 x3 : Vec F S256x512 .f32) (v3 : Vec F S1x512 .f32) (v5 : Vec F S8x512 .f32)
    (s : Vec F S64x512 .f32) : scanL x0 x1 x2 x3 v3 v5 s 0 = [] := by rw [scanL]

/-- The loop makes 256 trips. -/
theorem trips_eq : k1_t1_loop.trips = 256 := by decide +kernel

set_option maxHeartbeats 1000000 in
/-- One trip of the loop: the blocks read stay as they are, the scratch takes the trip's row, and the
    trip yields the next state. -/
theorem trip_run (c : Dev nD) (E : Set ℕ) (i : grid1.Coords) (arg2 : Memref sig .tc .vmem S1x2048x64 .f32) (harg2 : arg2.IsWhole) (arg3 : Memref sig .tc .vmem S1x2048x64 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S8x512 .f32) (harg7 : arg7.IsWhole)
    (arg8 : Memref sig .tc .vmem S64x1024 .f32) (harg8 : arg8.IsWhole) (arg9 : Memref sig .tc .vmem S8x256x1024 .f32) (harg9 : arg9.IsWhole) (arg10 : Memref sig .tc .vmem S8x64x64 .f32) (harg10 : arg10.IsWhole) (arg11 : Memref sig .tc .vmem S64x512 .f32) (harg11 : arg11.IsWhole) (arg12 : Memref sig .tc .vmem S256x512 .f32) (harg12 : arg12.IsWhole)
    (v3 : Vec F S1x512 .f32) (v5 : Vec F S8x512 .f32) (X0 : BufTy.Contents (Elt F) arg2.view.ty) (X1 : BufTy.Contents (Elt F) arg3.view.ty) (X2 : BufTy.Contents (Elt F) arg4.view.ty) (X3 : BufTy.Contents (Elt F) arg5.view.ty) (f : BufTy.Contents (Elt F) arg12.view.ty)
    (k : Fin k1_t1_loop.trips) (s : Vec F S64x512 .f32) :
    (iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3) ∗ (arg12.view.loc (c : Thread nD τ) ↦[arg12.view.set]{fullShare} f)) : sProp 𝕄S)
      ⊢ wp frame (wpE (defs₀ (F := F)) Variants.none (c : Thread nD τ) none) E (k1_t1_body (F := F) i arg2 harg2 arg3 harg3 arg4 harg4 arg5 harg5 arg6 harg6 arg7 harg7 arg8 harg8 arg9 harg9 arg10 harg10 arg11 harg11 arg12 harg12 v3 v5 k s)
          (fun y => iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3)
            ∗ (arg12.view.loc (c : Thread nD τ) ↦[arg12.view.set]{fullShare} arg12.view.writes (Elt F) f [⟨rRow k, tripO (arg2.view.read (Elt F) X0) (arg3.view.read (Elt F) X1) (arg4.view.read (Elt F) X2) (arg5.view.read (Elt F) X3) v3 v5 k s⟩])
            ∗ ⌜y = tripS (arg2.view.read (Elt F) X0) (arg4.view.read (Elt F) X2) (arg5.view.read (Elt F) X3) v3 v5 k s⌝)) := by
  have hk : k.val < 256 := Nat.lt_of_lt_of_le k.isLt k1_t1_abs.2.1
  unfold k1_t1_body
  iintro ⟨H0, H1, H2, H3, H4⟩
  sl_exec
  sl_step
  isplitl [H0]; · iexact H0
  isplitl [H1]; · iexact H1
  isplitl [H2]; · iexact H2
  isplitl [H3]; · iexact H3
  isplitl [H4]; · iexact H4
  ipureintro; rfl

/-- The invariant before trip `k`: the blocks read as at entry, the scratch with the rows stored before
    `k` written over what it held, the carried value the state before `k`. -/
abbrev scanInv (c : Dev nD) (arg2 : Memref sig .tc .vmem S1x2048x64 .f32) (arg3 : Memref sig .tc .vmem S1x2048x64 .f32) (arg4 : Memref sig .tc .vmem S256x512 .f32) (arg5 : Memref sig .tc .vmem S256x512 .f32) (arg12 : Memref sig .tc .vmem S256x512 .f32)
    (v3 : Vec F S1x512 .f32) (v5 : Vec F S8x512 .f32) (X0 : BufTy.Contents (Elt F) arg2.view.ty) (X1 : BufTy.Contents (Elt F) arg3.view.ty) (X2 : BufTy.Contents (Elt F) arg4.view.ty) (X3 : BufTy.Contents (Elt F) arg5.view.ty) (G : BufTy.Contents (Elt F) arg12.view.ty) (init : Vec F S64x512 .f32)
    (k : ℕ) (acc : Vec F S64x512 .f32) : sProp 𝕄S :=
  iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} X2) ∗ (arg5.view.loc (c : Thread nD τ) ↦[arg5.view.set]{fullShare} X3)
    ∗ (∃ f, (arg12.view.loc (c : Thread nD τ) ↦[arg12.view.set]{fullShare} f) ∗ ⌜f = arg12.view.writes (Elt F) G (scanL (arg2.view.read (Elt F) X0) (arg3.view.read (Elt F) X1) (arg4.view.read (Elt F) X2) (arg5.view.read (Elt F) X3) v3 v5 init k)⌝)
    ∗ ⌜acc = scanS (arg2.view.read (Elt F) X0) (arg4.view.read (Elt F) X2) (arg5.view.read (Elt F) X3) v3 v5 init k⌝)

set_option warn.classDefReducibility false in
/-- The loop goes through by that invariant. -/
@[sl_loop] def scanLoop (c : Dev nD) (E : Set ℕ) (i : grid1.Coords) (arg2 : Memref sig .tc .vmem S1x2048x64 .f32) (harg2 : arg2.IsWhole) (arg3 : Memref sig .tc .vmem S1x2048x64 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S8x512 .f32) (harg7 : arg7.IsWhole)
    (arg8 : Memref sig .tc .vmem S64x1024 .f32) (harg8 : arg8.IsWhole) (arg9 : Memref sig .tc .vmem S8x256x1024 .f32) (harg9 : arg9.IsWhole) (arg10 : Memref sig .tc .vmem S8x64x64 .f32) (harg10 : arg10.IsWhole) (arg11 : Memref sig .tc .vmem S64x512 .f32) (harg11 : arg11.IsWhole) (arg12 : Memref sig .tc .vmem S256x512 .f32) (harg12 : arg12.IsWhole)
    (v3 : Vec F S1x512 .f32) (v5 : Vec F S8x512 .f32) (X0 : BufTy.Contents (Elt F) arg2.view.ty) (X1 : BufTy.Contents (Elt F) arg3.view.ty) (X2 : BufTy.Contents (Elt F) arg4.view.ty) (X3 : BufTy.Contents (Elt F) arg5.view.ty) (G : BufTy.Contents (Elt F) arg12.view.ty) (init : Vec F S64x512 .f32) :
    Idealize.ShloMosaic.LoopInv (M := 𝕄S) Idealize.ShloMosaic.frame (wpE (defs₀ (F := F)) Variants.none (c : Thread nD τ) none) E
      k1_t1_loop.lb k1_t1_loop.ub k1_t1_loop.st k1_t1_ok init (k1_t1_body (F := F) i arg2 harg2 arg3 harg3 arg4 harg4 arg5 harg5 arg6 harg6 arg7 harg7 arg8 harg8 arg9 harg9 arg10 harg10 arg11 harg11 arg12 harg12 v3 v5) where
  inv := scanInv c arg2 arg3 arg4 arg5 arg12 v3 v5 X0 X1 X2 X3 G init
  step k acc := by
    iintro ⟨H0, H1, H2, H3, ⟨%f, H4, %hf⟩, %hacc⟩
    subst hacc
    iapply (wp_wand_r Idealize.ShloMosaic.frame (wpE (defs₀ (F := F)) Variants.none (c : Thread nD τ) none) E)
    isplitl [H0 H1 H2 H3 H4]
    · iapply (trip_run c E i arg2 harg2 arg3 harg3 arg4 harg4 arg5 harg5 arg6 harg6 arg7 harg7 arg8 harg8 arg9 harg9 arg10 harg10 arg11 harg11 arg12 harg12 v3 v5 X0 X1 X2 X3 f k _)
      isplitl [H0]; · iexact H0
      isplitl [H1]; · iexact H1
      isplitl [H2]; · iexact H2
      isplitl [H3]; · iexact H3
      iexact H4
    · iintro %y ⟨H0, H1, H2, H3, H4, %hy⟩
      isplitl [H0]; · iexact H0
      isplitl [H1]; · iexact H1
      isplitl [H2]; · iexact H2
      isplitl [H3]; · iexact H3
      simp only [scanL_succ, scanS_succ]
      isplitl [H4]
      · iexists _; isplitl [H4]; · iexact H4
        ipureintro; rw [hf, ← View.writes_append]; rfl
      ipureintro; exact hy

end Cert.KernelIdeal.Hand

end
-- ==== Proof.Region1.lean ====
/-
  Call 1 of the kernel, the scan: what one grid point leaves in the carried state, in its output block
  and in the final-state block, and the body's triple.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Scan
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄S" => MT nD τ sig Unit (Elt F) ℕ (UR sig nD τ) ℕ

/-! ## What one grid point leaves -/

abbrev rS : Rect S64x512 := Rect.unit (s := S64x512) ![0, 0] S64x512.size inb_S64x512_S64x512_0_0
abbrev rD : Rect S1x512 := Rect.unit (s := S1x512) ![0, 0] S1x512.size inb_S1x512_S1x512_0_0
abbrev rE : Rect S8x512 := Rect.unit (s := S8x512) ![0, 0] S8x512.size inb_S8x512_S8x512_0_0
abbrev rW : Rect S64x1024 := Rect.unit (s := S64x1024) ![0, 0] S64x1024.size inb_S64x1024_S64x1024_0_0
abbrev rOut : Rect S8x256x1024 := Rect.unit (s := S8x256x1024) ![0, 0, 0] S8x256x1024.size inb_S8x256x1024_S8x256x1024_0_0_0

/-- The state after the point's 256 trips, from the state `s` it starts at. -/
def ptS (x0 : Vec F S1x2048x64 .f32) (x2 x3 : Vec F S256x512 .f32) (x4 : Vec F S1x512 .f32) (x5 : Vec F S8x512 .f32)
    (s : Vec F S64x512 .f32) : Vec F S64x512 .f32 :=
  scanS x0 x2 x3 (View.ld x4 rD) (View.ld x5 rE) s k1_t1_loop.trips

/-- The output scratch after them. -/
def ptO (x0 x1 : Vec F S1x2048x64 .f32) (x2 x3 : Vec F S256x512 .f32) (x4 : Vec F S1x512 .f32) (x5 : Vec F S8x512 .f32)
    (s : Vec F S64x512 .f32) : Vec F S256x512 .f32 :=
  View.canon (scanL x0 x1 x2 x3 (View.ld x4 rD) (View.ld x5 rE) s k1_t1_loop.trips)

/-- The carried scratch after the point. -/
def keepS (s : Vec F S64x512 .f32) : Vec F S64x512 .f32 := View.canon [⟨rS, k1_pay13 s⟩]

/-- The point's output block, from the output scratch `o` and the output weights. -/
def out1_7 (o : Vec F S256x512 .f32) (x6 : Vec F S64x1024 .f32) : Vec F S8x256x1024 .f32 :=
  View.canon [⟨rOut, k1_pay1
  (View.ld o (Rect.unit (s := S256x512) ![0, 0] S256x64.size inb_S256x512_S256x64_0_0))
  (View.ld o (Rect.unit (s := S256x512) ![0, 64] S256x64.size inb_S256x512_S256x64_0_64))
  (View.ld o (Rect.unit (s := S256x512) ![0, 128] S256x64.size inb_S256x512_S256x64_0_128))
  (View.ld o (Rect.unit (s := S256x512) ![0, 192] S256x64.size inb_S256x512_S256x64_0_192))
  (View.ld o (Rect.unit (s := S256x512) ![0, 256] S256x64.size inb_S256x512_S256x64_0_256))
  (View.ld o (Rect.unit (s := S256x512) ![0, 320] S256x64.size inb_S256x512_S256x64_0_320))
  (View.ld o (Rect.unit (s := S256x512) ![0, 384] S256x64.size inb_S256x512_S256x64_0_384))
  (View.ld o (Rect.unit (s := S256x512) ![0, 448] S256x64.size inb_S256x512_S256x64_0_448))
  (View.ld x6 rW)⟩]

/-- The eight pieces of the final-state block, one per batch row of the block. -/
abbrev pieces8 (s : Vec F S64x512 .f32) : List (View.Piece (Elt F) S8x64x64 .f32) :=
  [⟨Rect.unit (s := S8x64x64) ![7, 0, 0] S1x64x64.size inb_S8x64x64_S1x64x64_7_0_0, k1_pay15 s⟩,
    ⟨Rect.unit (s := S8x64x64) ![6, 0, 0] S1x64x64.size inb_S8x64x64_S1x64x64_6_0_0, k1_pay14 (k1_pay8 s)⟩,
    ⟨Rect.unit (s := S8x64x64) ![5, 0, 0] S1x64x64.size inb_S8x64x64_S1x64x64_5_0_0, k1_pay7 s⟩,
    ⟨Rect.unit (s := S8x64x64) ![4, 0, 0] S1x64x64.size inb_S8x64x64_S1x64x64_4_0_0, k1_pay6 s⟩,
    ⟨Rect.unit (s := S8x64x64) ![3, 0, 0] S1x64x64.size inb_S8x64x64_S1x64x64_3_0_0, k1_pay5 s⟩,
    ⟨Rect.unit (s := S8x64x64) ![2, 0, 0] S1x64x64.size inb_S8x64x64_S1x64x64_2_0_0, k1_pay4 s⟩,
    ⟨Rect.unit (s := S8x64x64) ![1, 0, 0] S1x64x64.size inb_S8x64x64_S1x64x64_1_0_0, k1_pay3 s⟩,
    ⟨Rect.unit (s := S8x64x64) ![0, 0, 0] S1x64x64.size inb_S8x64x64_S1x64x64_0_0_0, k1_pay2 s⟩]

/-- The final-state block, from the state after the last trip. -/
def out1_8 (s : Vec F S64x512 .f32) : Vec F S8x64x64 .f32 := View.canon (pieces8 s)

/-! ## The stores cover their buffers -/

theorem coverS (p : Vec F S64x512 .f32) (L : List (View.Piece (Elt F) S64x512 .f32)) (y : S64x512.Idx) :
    ∃ pc ∈ (⟨rS, p⟩ :: L : List (View.Piece (Elt F) S64x512 .f32)), y ∈ pc.1.set := by
  obtain ⟨pc, hm, hy⟩ := View.cover_of_tiled [⟨rS, p⟩] S64x512.size (by rfl) y
  exact ⟨pc, List.mem_cons.2 (.inl (List.mem_singleton.1 hm)), hy⟩

theorem coverOut (p : Vec F S8x256x1024 .f32) (y : S8x256x1024.Idx) :
    ∃ pc ∈ ([⟨rOut, p⟩] : List (View.Piece (Elt F) S8x256x1024 .f32)), y ∈ pc.1.set :=
  View.cover_of_tiled [⟨rOut, p⟩] S8x256x1024.size (by rfl) y

theorem cover8 (s : Vec F S64x512 .f32) (y : S8x64x64.Idx) : ∃ pc ∈ pieces8 s, y ∈ pc.1.set :=
  View.cover_of_tiled (pieces8 s) S1x64x64.size (by rfl) y

/-- After `n` trips every row before `n` has been stored. -/
theorem coverO (x0 x1 : Vec F S1x2048x64 .f32) (x2 x3 : Vec F S256x512 .f32) (v3 : Vec F S1x512 .f32) (v5 : Vec F S8x512 .f32)
    (s : Vec F S64x512 .f32) (y : S256x512.Idx) :
    ∃ pc ∈ scanL x0 x1 x2 x3 v3 v5 s k1_t1_loop.trips, y ∈ pc.1.set := by
  have key : ∀ n, n ≤ k1_t1_loop.trips → (y 0).val < n → ∃ pc ∈ scanL x0 x1 x2 x3 v3 v5 s n, y ∈ pc.1.set := by
    intro n
    induction n with
    | zero => intro _ h; exact absurd h (Nat.not_lt_zero _)
    | succ n ih =>
      intro hn hy
      have hs := scanL_succ x0 x1 x2 x3 v3 v5 s ⟨n, hn⟩
      simp only at hs
      rw [hs]
      by_cases hlt : (y 0).val < n
      · obtain ⟨pc, hm, hp⟩ := ih (Nat.le_of_succ_le hn) hlt
        exact ⟨pc, List.mem_cons_of_mem _ hm, hp⟩
      · refine ⟨_, List.mem_cons_self, ?_⟩
        have he : (y 0).val = n := by omega
        have ho := k1_off2_eq ⟨n, hn⟩
        refine (rRow ⟨n, hn⟩).mem_set.mpr ?_
        intro a
        fin_cases a
        · exact ⟨0, Nat.one_pos, by simp [he, ho]⟩
        · exact ⟨(y 1).val, (y 1).isLt, by simp [ho]⟩
  exact key _ le_rfl (by rw [trips_eq]; exact (y 0).isLt)

/-- A whole store hides what was stored before it. -/
theorem canonS (p : Vec F S64x512 .f32) (L : List (View.Piece (Elt F) S64x512 .f32)) :
    View.canon (⟨rS, p⟩ :: L) = View.canon [⟨rS, p⟩] := by
  funext y
  obtain ⟨pc, hm, hy⟩ := View.cover_of_tiled [⟨rS, p⟩] S64x512.size (by rfl) y
  obtain rfl := List.mem_singleton.1 hm
  obtain ⟨x, rfl⟩ := rS.exists_idx_of_mem hy
  exact (View.canon_cons_emb rS p L x).trans (View.canon_cons_emb rS p [] x).symm

/-! ## The body's triple -/

/-- The condition under which the body starts the carried state afresh. -/
abbrev condInit (i : grid1.Coords) : Prop := (Scalar.cmpi .ne (Scalar.extui (Scalar.cmpi .eq (BitVec.ofNat 32 (i 1).val) 0#32)) 0#32) = 1#1

/-- The state a point starts at: zeros at the first point of a batch half, else what the point before left. -/
def startS (i : grid1.Coords) (s : Vec F S64x512 .f32) : Vec F S64x512 .f32 := if condInit i then k1_pay9 else View.ld s rS

/-- The block read back through the output scratch: the eight column loads are of the rows the loop stored. -/
theorem out7_of (v : View sig .tc .vmem S256x512 .f32)
    (x0 x1 : Vec F S1x2048x64 .f32) (x2 x3 : Vec F S256x512 .f32) (x4 : Vec F S1x512 .f32) (x5 : Vec F S8x512 .f32) (x6 : Vec F S64x1024 .f32)
    (v3 : Vec F S1x512 .f32) (v5 : Vec F S8x512 .f32) (s s' : Vec F S64x512 .f32) (n : ℕ) (w0 w1 w2 w3 w4 w5 w6 w7 : Vec F S256x64 .f32) (w8 : Vec F S64x1024 .f32)
    (h0 : w0 = v.readCov (scanL x0 x1 x2 x3 v3 v5 s n) (Rect.unit (s := S256x512) ![0, 0] S256x64.size inb_S256x512_S256x64_0_0).toLoadRect)
    (h1 : w1 = v.readCov (scanL x0 x1 x2 x3 v3 v5 s n) (Rect.unit (s := S256x512) ![0, 64] S256x64.size inb_S256x512_S256x64_0_64).toLoadRect)
    (h2 : w2 = v.readCov (scanL x0 x1 x2 x3 v3 v5 s n) (Rect.unit (s := S256x512) ![0, 128] S256x64.size inb_S256x512_S256x64_0_128).toLoadRect)
    (h3 : w3 = v.readCov (scanL x0 x1 x2 x3 v3 v5 s n) (Rect.unit (s := S256x512) ![0, 192] S256x64.size inb_S256x512_S256x64_0_192).toLoadRect)
    (h4 : w4 = v.readCov (scanL x0 x1 x2 x3 v3 v5 s n) (Rect.unit (s := S256x512) ![0, 256] S256x64.size inb_S256x512_S256x64_0_256).toLoadRect)
    (h5 : w5 = v.readCov (scanL x0 x1 x2 x3 v3 v5 s n) (Rect.unit (s := S256x512) ![0, 320] S256x64.size inb_S256x512_S256x64_0_320).toLoadRect)
    (h6 : w6 = v.readCov (scanL x0 x1 x2 x3 v3 v5 s n) (Rect.unit (s := S256x512) ![0, 384] S256x64.size inb_S256x512_S256x64_0_384).toLoadRect)
    (h7 : w7 = v.readCov (scanL x0 x1 x2 x3 v3 v5 s n) (Rect.unit (s := S256x512) ![0, 448] S256x64.size inb_S256x512_S256x64_0_448).toLoadRect)
    (hn : n = k1_t1_loop.trips) (hs : s = s') (hv3 : v3 = View.ld x4 rD) (hv5 : v5 = View.ld x5 rE) (hw : w8 = View.ld x6 rW) :
    View.canon [⟨rOut, k1_pay1 w0 w1 w2 w3 w4 w5 w6 w7 w8⟩] = out1_7 (ptO x0 x1 x2 x3 x4 x5 s') x6 := by
  subst hn hs hv3 hv5
  rw [View.readCov_eq_canon'] at h0 h1 h2 h3 h4 h5 h6 h7
  subst h0 h1 h2 h3 h4 h5 h6 h7 hw
  rfl

/-- The state after the point, from what the run names. -/
theorem ptS_of (x0 : Vec F S1x2048x64 .f32) (x2 x3 : Vec F S256x512 .f32) (x4 : Vec F S1x512 .f32) (x5 : Vec F S8x512 .f32)
    (v3 : Vec F S1x512 .f32) (v5 : Vec F S8x512 .f32) (s s' z : Vec F S64x512 .f32) (n : ℕ) (hz : z = scanS x0 x2 x3 v3 v5 s n)
    (hn : n = k1_t1_loop.trips) (hs : s = s') (h3 : v3 = View.ld x4 rD) (h5 : v5 = View.ld x5 rE) :
    z = ptS x0 x2 x3 x4 x5 s' := by
  subst hn hs h3 h5; exact hz

/-- The final-state block, from the eight stores. -/
theorem out8_of (v : View sig .tc .vmem S8x64x64 .f32) (f : v.ty.Contents (Elt F)) (z z' : Vec F S64x512 .f32)
    (p0 p1 p2 p3 p4 p5 p6 p7 : Vec F S1x64x64 .f32) (h0 : p0 = k1_pay2 z) (h1 : p1 = k1_pay3 z) (h2 : p2 = k1_pay4 z) (h3 : p3 = k1_pay5 z) (h4 : p4 = k1_pay6 z) (h5 : p5 = k1_pay7 z) (h6 : p6 = k1_pay14 (k1_pay8 z)) (h7 : p7 = k1_pay15 z) (hz : z = z') :
    v.read (Elt F) (v.writes (Elt F) f
     [⟨Rect.unit (s := S8x64x64) ![7, 0, 0] S1x64x64.size inb_S8x64x64_S1x64x64_7_0_0, p7⟩,
      ⟨Rect.unit (s := S8x64x64) ![6, 0, 0] S1x64x64.size inb_S8x64x64_S1x64x64_6_0_0, p6⟩,
      ⟨Rect.unit (s := S8x64x64) ![5, 0, 0] S1x64x64.size inb_S8x64x64_S1x64x64_5_0_0, p5⟩,
      ⟨Rect.unit (s := S8x64x64) ![4, 0, 0] S1x64x64.size inb_S8x64x64_S1x64x64_4_0_0, p4⟩,
      ⟨Rect.unit (s := S8x64x64) ![3, 0, 0] S1x64x64.size inb_S8x64x64_S1x64x64_3_0_0, p3⟩,
      ⟨Rect.unit (s := S8x64x64) ![2, 0, 0] S1x64x64.size inb_S8x64x64_S1x64x64_2_0_0, p2⟩,
      ⟨Rect.unit (s := S8x64x64) ![1, 0, 0] S1x64x64.size inb_S8x64x64_S1x64x64_1_0_0, p1⟩,
      ⟨Rect.unit (s := S8x64x64) ![0, 0, 0] S1x64x64.size inb_S8x64x64_S1x64x64_0_0_0, p0⟩]) = out1_8 z' := by
  subst hz; subst h0 h1 h2 h3 h4 h5 h6 h7
  exact View.read_writes_eq_canon _ _ _ (cover8 _)

/-- The carried scratch after the last store. -/
theorem keep_of (v : View sig .tc .vmem S64x512 .f32) (f : v.ty.Contents (Elt F)) (z z' : Vec F S64x512 .f32)
    (L : List (View.Piece (Elt F) S64x512 .f32)) (hz : z = z') :
    v.read (Elt F) (v.writes (Elt F) f (⟨rS, k1_pay13 z⟩ :: L)) = keepS z' := by
  subst hz; exact (View.read_writes_eq_canon _ _ _ (coverS _ _)).trans (canonS _ _)

theorem start_pos (i : grid1.Coords) (h : condInit i) (v : View sig .tc .vmem S64x512 .f32) (s : Vec F S64x512 .f32) :
    startS i s = v.readCov [⟨rS, (k1_pay9 (F := F))⟩] rS.toLoadRect := by
  have hw := View.readCov_cons_toLoadRect (Val := Elt F) v rS (k1_pay9 (F := F)) []
  rw [hw]; exact if_pos h

theorem start_neg (i : grid1.Coords) (h : ¬condInit i) (s : Vec F S64x512 .f32) : startS i s = View.ld s rS := if_neg h

set_option maxHeartbeats 600000 in
/-- The kernel body on whole staging memrefs: the inputs' blocks stay as they were, the output block and the
    carried scratch are as above, and the final-state block is written at the points that write it. -/
theorem scan_run (c : Dev nD) (E : Set ℕ) (i : grid1.Coords) (arg2 : Memref sig .tc .vmem S1x2048x64 .f32) (harg2 : arg2.IsWhole) (arg3 : Memref sig .tc .vmem S1x2048x64 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S8x512 .f32) (harg7 : arg7.IsWhole)
    (arg8 : Memref sig .tc .vmem S64x1024 .f32) (harg8 : arg8.IsWhole) (arg9 : Memref sig .tc .vmem S8x256x1024 .f32) (harg9 : arg9.IsWhole) (arg10 : Memref sig .tc .vmem S8x64x64 .f32) (harg10 : arg10.IsWhole) (arg11 : Memref sig .tc .vmem S64x512 .f32) (harg11 : arg11.IsWhole) (arg12 : Memref sig .tc .vmem S256x512 .f32) (harg12 : arg12.IsWhole)
    (x0 x1 : Vec F S1x2048x64 .f32) (x2 x3 : Vec F S256x512 .f32) (x4 : Vec F S1x512 .f32) (x5 : Vec F S8x512 .f32) (x6 : Vec F S64x1024 .f32) (x8 : Vec F S8x64x64 .f32) (xs : Vec F S64x512 .f32) (K : PUnit → sProp 𝕄S) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare xs ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out1_7 (ptO x0 x1 x2 x3 x4 x5 (startS i xs)) x6)
            ∗ owns (c : Thread nD τ) arg10 fullShare (if k1_cond2 i = 1#1 then out1_8 (ptS x0 x2 x3 x4 x5 (startS i xs)) else x8)
            ∗ owns (c : Thread nD τ) arg11 fullShare (keepS (ptS x0 x2 x3 x4 x5 (startS i xs))) ∗ (∃ d, owns (c : Thread nD τ) arg12 fullShare d)) -∗ K ⟨⟩))
      ⊢ wp frame (wpE (defs₀ (F := F)) Variants.none (c : Thread nD τ) none) E (cc1__scan_kernel i arg2 harg2 arg3 harg3 arg4 harg4 arg5 harg5 arg6 harg6 arg7 harg7 arg8 harg8 arg9 harg9 arg10 harg10 arg11 harg11 arg12 harg12) K := by
  simp only [cc1__scan_kernel_eq_skeleton]; unfold cc1__scan_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%ds1, %fs1, -, HS1⟩, Hk⟩
  subst hf0 hf1 hf2 hf3 hf4 hf5 hf6 hf8 hfs0
  rcases Classical.em (condInit i) with hc0 | hc0 <;> rcases Classical.em (k1_cond2 i = 1#1) with hc1 | hc1
  on_goal 1 => rw [start_pos i hc0 arg11.view]
  on_goal 2 => rw [start_pos i hc0 arg11.view]
  on_goal 3 => rw [start_neg i hc0]
  on_goal 4 => rw [start_neg i hc0]
  all_goals
    sl_exec (disch := first | sl_exact hc0 | sl_exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      exact (View.read_writes_eq_canon _ _ _ (coverOut _)).trans (out7_of arg12.view _ _ _ _ _ _ _ _ _ _ _ _ _ _ _ _ _ _ _ _ _ rfl rfl rfl rfl rfl rfl rfl rfl rfl rfl rfl rfl rfl)
    isplitl [H8]
    · iexists _; isplitr
      swap; · iexact H8
      ipureintro
      first
      | rw [if_pos hc1]; exact out8_of _ _ _ _ _ _ _ _ _ _ _ _ rfl rfl rfl rfl rfl rfl rfl rfl (ptS_of _ _ _ _ _ _ _ _ _ _ _ rfl rfl rfl rfl rfl)
      | exact (if_neg hc1).symm
    isplitl [HS0]
    · iexists _; isplitr
      swap; · iexact HS0
      ipureintro
      exact keep_of _ _ _ _ _ (ptS_of _ _ _ _ _ _ _ _ _ _ _ rfl rfl rfl rfl rfl)
    iexists _; iexists _; isplitr
    swap; · iexact HS1
    ipureintro; rfl

end Cert.KernelIdeal.Hand

end
-- ==== Proof.Body1.lean ====
/-
  Call 1 of the kernel, the scan: the state the points carry, the pipeline's proof data and the body
  obligation, at a parameter `V`, the contents of the core's buffers when the call begins.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The carried state -/

/-- The carried scratch before point `n`: what the point before left (before the first, any: zeros). -/
def befS (c : Dev nD) : ℕ → Vec F S64x512 .f32
  | 0 => k1_pay9
  | n + 1 => if h : n < cfg1.N then
      keepS (ptS (iblk1 V c 0 ⟨n, h⟩) (iblk1 V c 2 ⟨n, h⟩) (iblk1 V c 3 ⟨n, h⟩) (iblk1 V c 4 ⟨n, h⟩) (iblk1 V c 5 ⟨n, h⟩) (startS (grid1.coords ⟨n, h⟩) (befS c n)))
    else befS c n

/-- The state the loop of point `t` starts at. -/
def begS (c : Dev nD) (t : Fin cfg1.N) : Vec F S64x512 .f32 := startS (grid1.coords t) (befS V c t.val)

/-- The state after the loop of point `t`. -/
def endS (c : Dev nD) (t : Fin cfg1.N) : Vec F S64x512 .f32 :=
  ptS (iblk1 V c 0 t) (iblk1 V c 2 t) (iblk1 V c 3 t) (iblk1 V c 4 t) (iblk1 V c 5 t) (begS V c t)

theorem befS_succ (c : Dev nD) (t : Fin cfg1.N) : befS V c (t.val + 1) = keepS (endS V c t) := by
  rw [befS]; exact dif_pos t.isLt

/-- Point `t`'s output block. -/
def blk7 (c : Dev nD) (t : Fin cfg1.N) : Vec F S8x256x1024 .f32 :=
  out1_7 (ptO (iblk1 V c 0 t) (iblk1 V c 1 t) (iblk1 V c 2 t) (iblk1 V c 3 t) (iblk1 V c 4 t) (iblk1 V c 5 t) (begS V c t)) (iblk1 V c 6 t)

/-- The final-state block, at the points that write it. -/
def blk8 (c : Dev nD) (t : Fin cfg1.N) : Vec F S8x64x64 .f32 := out1_8 (endS V c t)

/-- The state starts afresh at the points `0` and `8`, the first of each batch half. -/
theorem hcond1_0 : ∀ t : Fin cfg1.N, condInit (grid1.coords t) ↔ t.val % 8 = 0 :=
  (fun t => by
    have ht : t.val < 16 := Nat.lt_of_lt_of_eq t.isLt N_1
    have e0 : (grid1.coords t 0).val = t.val / 8 % 2 := Pipeline.Grid.coords_val t 0 (by decide) rfl
    have e1 : (grid1.coords t 1).val = t.val / 1 % 8 := Pipeline.Grid.coords_val t 1 (by decide) rfl
    simp only [condInit, e0, e1]
    word_cmp
   : ∀ t : Fin grid1.N, condInit (grid1.coords t) ↔ t.val % 8 = 0)

/-- The final state is written at the points `7` and `15`, the last of each batch half. -/
theorem hcond1_1 : ∀ t : Fin cfg1.N, k1_cond2 (grid1.coords t) = 1#1 ↔ t.val % 8 = 7 :=
  (fun t => by
    have ht : t.val < 16 := Nat.lt_of_lt_of_eq t.isLt N_1
    have e0 : (grid1.coords t 0).val = t.val / 8 % 2 := Pipeline.Grid.coords_val t 0 (by decide) rfl
    have e1 : (grid1.coords t 1).val = t.val / 1 % 8 := Pipeline.Grid.coords_val t 1 (by decide) rfl
    simp only [k1_cond2, e0, e1]
    word_cmp
   : ∀ t : Fin grid1.N, k1_cond2 (grid1.coords t) = 1#1 ↔ t.val % 8 = 7)

theorem live8 : ∀ t : Fin cfg1.N, k1_cond2 (grid1.coords t) = 1#1 → cfg1.idle 8 (grid1.coords t) = false := by decide +kernel
theorem idle8 : ∀ t : Fin cfg1.N, ¬k1_cond2 (grid1.coords t) = 1#1 → cfg1.idle 8 (grid1.coords t) = true := by decide +kernel
theorem noFlush8 : ∀ t : Fin cfg1.N, ¬k1_cond2 (grid1.coords t) = 1#1 → (cfg1.win 8).flush t = false := by decide +kernel

/-! ## The invariant between points -/

abbrev scM0 : Memref sig .tc .vmem S64x512 .f32 := Memref.whole cc1_scratch0
abbrev scM1 : Memref sig .tc .vmem S256x512 .f32 := Memref.whole cc1_scratch1

/-- A scoped buffer whole at some contents. -/
abbrev anyAt (c : Dev nD) (b : Ref sig .tc) : sProp 𝕄 := iprop(∃ f : Buf (Elt F) ((c : Thread nD τ).loc b), ((c : Thread nD τ).loc b) ↦{fullShare} f)

/-- The staging buffers of call 0, which this call leaves alone. -/
def rest0 (c : Dev nD) : sProp 𝕄 :=
  iprop(anyAt (F := F) c cc0_stg0_0 ∗ anyAt (F := F) c cc0_stg0_1 ∗ anyAt (F := F) c cc0_stg1_0 ∗ anyAt (F := F) c cc0_stg2_0 ∗ anyAt (F := F) c cc0_stg3_0 ∗ anyAt (F := F) c cc0_stg4_0 ∗ anyAt (F := F) c cc0_stg4_1
    ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1)

theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg2_0 ∗ anyAt (F := F) c cc0_stg3_0 ∗ anyAt (F := F) c cc0_stg4_0 ∗ anyAt (F := F) c cc0_stg4_1
        ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1
        ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- The invariant before point `n`: the carried scratch at what the point before left. -/
def PhiS (c : Dev nD) : ℕ → sProp 𝕄
  | 0 => Pipeline.ΦA spec1 c
  | n + 1 => iprop(rest0 (F := F) c ∗ owns (c : Thread nD τ) scM0 fullShare (befS V c (n + 1)) ∗ (∃ d, owns (c : Thread nD τ) scM1 fullShare d) ∗ (∃ r, prngReg c r))

theorem PhiS_out (c : Dev nD) (n : ℕ) : PhiS V c (n + 1) ⊢ Pipeline.ΦA spec1 c := by
  rw [PhiA1_eq]; unfold PhiS rest0
  iintro ⟨⟨H0, H1, H2, H3, H4, H5, H6, H7, H8, H9, H10, H11, H12⟩, HS0, HS1, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexists _; iexact HS0
    iexact HS1
  iexact Hg

/-- Before any point: the carried scratch at contents from which the body starts as from `befS`. -/
theorem PhiS_open (c : Dev nD) (t : Fin cfg1.N) :
    PhiS V c t.val ⊢ iprop(rest0 (F := F) c ∗ (∃ xs, owns (c : Thread nD τ) scM0 fullShare xs ∗ ⌜startS (grid1.coords t) xs = begS V c t⌝)
      ∗ (∃ d, owns (c : Thread nD τ) scM1 fullShare d) ∗ (∃ r, prngReg c r)) := by
  obtain ⟨n, hn⟩ := t
  cases n with
  | zero =>
    have h0 : condInit (grid1.coords ⟨0, hn⟩) := (hcond1_0 ⟨0, hn⟩).2 rfl
    show Pipeline.ΦA spec1 c ⊢ _
    rw [PhiA1_eq]; unfold rest0
    iintro ⟨⟨H0, H1, H2, H3, H4, H5, H6, H7, H8, H9, H10, H11, H12, ⟨%d, HS0⟩, HS1⟩, Hg⟩
    isplitr [HS0 HS1 Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [HS0]
    · iexists d; isplitl [HS0]; · iexact HS0
      ipureintro; unfold begS startS; rw [if_pos h0, if_pos h0]
    isplitl [HS1]; · iexact HS1
    iexact Hg
  | succ n =>
    show PhiS V c (n + 1) ⊢ _
    unfold PhiS
    iintro ⟨Hr, HS0, HS1, Hg⟩
    isplitl [Hr]; · iexact Hr
    isplitl [HS0]
    · iexists _; isplitl [HS0]; · iexact HS0
      ipureintro; rfl
    isplitl [HS1]; · iexact HS1
    iexact Hg

/-! ## The proof data and the body obligation -/

/-- The pipeline's proof data: each input's buffer at its block after the body, the outputs' at `blk7` and `blk8`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => blk7 V c t
    | ⟨8, _⟩ => blk8 V c t
  Φ t := PhiS V c t.val
  q _ := fullShare
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = blk7 V c t := by dsimp only [dat1]
theorem after1_8 (c : Dev nD) (t : Fin cfg1.N) : (dat1 V c).after 8 t = blk8 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the final-state block only where it is written. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

/-- A live window's buffer after the body. -/
theorem leaves1 (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  have hΦ : (dat1 V c).Φ t.castSucc = PhiS V c t.val := rfl
  have hΦ' : (dat1 V c).Φ t.succ = iprop(rest0 (F := F) c ∗ owns (c : Thread nD τ) scM0 fullShare (befS V c (t.val + 1)) ∗ (∃ d, owns (c : Thread nD τ) scM1 fullShare d) ∗ (∃ r, prngReg c r)) := rfl
  unfold bodyPre1 bodyPost1 bodyAt1
  simp only [before1_0, before1_1, before1_2, before1_3, before1_4, before1_5, before1_6]
  rw [hΦ, hΦ', befS_succ, show (dat1 V c).owesAt () t.succ = (dat1 V c).owesAt () t.castSucc from rfl]
  rw [leaves1 V c 0 t rfl, leaves1 V c 1 t rfl, leaves1 V c 2 t rfl, leaves1 V c 3 t rfl, leaves1 V c 4 t rfl, leaves1 V c 5 t rfl, leaves1 V c 6 t rfl, leaves1 V c 7 t rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (PhiS_open V c t) $$ HΦ
  icases HΦ with ⟨Hr, ⟨%xs, HS0, %hxs⟩, HS1, Hg⟩
  iapply (scan_run c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((dat1 V c).before 8 t d8) xs _)
  rw [hxs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS0]; · iexact HS0
  isplitl [HS1]; · iexact HS1
  iintro ⟨H0, H1, H2, H3, H4, H5, H6, H7, H8, HS0, HS1⟩
  isplitl [HS0 HS1 Hg Hr]
  · isplitl [Hr]; · iexact Hr
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h : k1_cond2 (grid1.coords t) = 1#1
  · rw [if_pos h, leaves1 V c 8 t (live8 t h), after1_8]; iexact H8
  · rw [if_neg h, Dat.leavesExact_idle (dat1 V c) 8 t (idle8 t h) (noFlush8 t h)]; iexists _; iexact H8

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := by
  rw [show (dat1 V c).Φ (Fin.last cfg1.N) = PhiS V c (15 + 1) from by dsimp only [dat1]; rw [Fin.val_last, show cfg1.N = 16 from N_1]]
  exact PhiS_out V c 15

end Cert.KernelIdeal.Hand

end
-- ==== Proof.Run.lean ====
/-
  The two calls composed: the buffers' contents at each boundary of the program, the calls as segments, the
  frame, and what the result buffers end holding.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Region0
public import proofs.«01_k».proof.Proof.Body1
public import Idealize.ShloMosaic.Lib.Pipeline.FrameBody
public import Idealize.ShloMosaic.Lib.Claim
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
abbrev hostOps0_W : List (Ref sig .tc) := [main_v0, main_v1, main_v2, main_cst, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v7, main_v8, main_v9, main_v10, main_v11, main_v12, main_v13, main_v14, main_v15, main_v16, main_v17, main_v18, main_c, main_v19, main_v20, main_v21, main_v22, main_v23, main_v24, main_v25]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]; refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

theorem args_unscoped : ∀ a ∈ argRefs, ¬ (Proc.devRef .tc a : DevRef τ sig).isScoped :=
  ListAll.forall_mem_of_all_decide (by decide +kernel)

set_option backward.isDefEq.respectTransparency.types false in
/-- Every execution ends, with every buffer the pipelines do not scope at the last boundary's contents and every
    semaphore counter at zero. -/
theorem run_all : θ_run defs (onTc (τ := τ) (main (F := F))) ⟨m, fun _ => 0, ρ⟩ (fun r =>
    (∀ c : Dev nD, ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => by
    have ha : ∀ a ∈ argRefs, r.2.mem ((c.tc : Thread nD τ).loc a) = m ((c.tc : Thread nD τ).loc a) := fun a hm =>
      (h.1 c _ (mem_uc a (args_unscoped a hm))).trans (W4_args m ρ c a hm)
    exact ⟨ha main_arg0 (by decide), ha main_arg1 (by decide), ha main_arg2 (by decide), ha main_arg3 (by decide), ha main_arg4 (by decide), ha main_arg5 (by decide), ha main_arg6 (by decide), ha main_arg7 (by decide), ha main_arg8 (by decide)⟩, h.2⟩) (run_all m ρ)

/-- What the two result buffers end holding, the arrays call 1's pipeline leaves, and the arguments as launched. -/
theorem results : θ_run defs (onTc (τ := τ) (main (F := F))) ⟨m, fun _ => 0, ρ⟩ (fun r => ∀ c : Dev nD,
      r.2.mem ((c.tc : Thread nD τ).loc main_v26_0) = (dat1 (V3 m ρ) c).arrAt 7 cfg1.N
      ∧ r.2.mem ((c.tc : Thread nD τ).loc main_v26_1) = (dat1 (V3 m ρ) c).arrAt 8 cfg1.N
      ∧ ∀ a ∈ argRefs, r.2.mem ((c.tc : Thread nD τ).loc a) = m ((c.tc : Thread nD τ).loc a)) :=
  (θ_run defs _ _).mono (fun r h c =>
    ⟨(h.1 c _ (mem_uc main_v26_0 (by decide))).trans (W4_arr m ρ c 7), (h.1 c _ (mem_uc main_v26_1 (by decide))).trans (W4_arr m ρ c 8),
      fun a hm => (h.1 c _ (mem_uc a (args_unscoped a hm))).trans (W4_args m ρ c a hm)⟩) (run_all m ρ)

end Cert.KernelIdeal.Hand

end
-- ==== Proof.Frames.lean ====
/-
  The three programs' frames: every execution of each ends with the arguments as launched and every counter at zero.
-/
module

public import proofs.«01_k».proof.Defs
public import proofs.«01_k».proof.Proof.Run
public import proofs.«01_k».proof.Proof.Gen.Kernel.Launch
public import proofs.«01_k».proof.Proof.Gen.ReferenceIdeal.Run
public import Idealize.ShloMosaic.Lib.Quiescent
public import Idealize.ShloMosaic.Lib.Tactic

@[expose] public section

set_option maxRecDepth 16384
set_option synthInstance.maxHeartbeats 400000
set_option maxHeartbeats 1000000

noncomputable section

namespace Cert.Proof

open Idealize.ShloMosaic Idealize.ShloMosaic.TcCoe Idealize.ShloMosaic.Tactic Idealize.SL.Sem

variable {F : FTy → Type} [FloatOps F]

/-- The printed kernel and its idealization declare the same procedures (no rewrite was asked for). -/
theorem same_defs : @Cert.Kernel.defs F _ Cert.Kernel.Gen.facts = @Cert.KernelIdeal.defs F _ Cert.KernelIdeal.Gen.facts := by
  sl_kernel_rfl

/-- The printed kernel and its idealization have the same @main. -/
theorem same_main : @Cert.Kernel.main F _ Cert.Kernel.Gen.facts = @Cert.KernelIdeal.main F _ Cert.KernelIdeal.Gen.facts := by
  sl_kernel_rfl

/-- The printed kernel leaves its arguments as launched and every counter at zero. -/
theorem frame_kernel : Cert.quiescent_Kernel (hKernel := Cert.Kernel.Gen.facts) := by
  intro m ρ _
  rw [same_defs, same_main]
  exact Cert.KernelIdeal.Hand.frame (F := Bits) m ρ

/-- So does the idealized kernel. -/
theorem frame_ideal : Cert.quiescent_KernelIdeal (hKernelIdeal := Cert.KernelIdeal.Gen.facts) :=
  fun m ρ _ => Cert.KernelIdeal.Hand.frame (F := Ideal) m ρ

/-- So does the reference, which declares no counter at all. -/
theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Proof

end
-- ==== Proof.Cell.lean ====
/-
  The memory cell of ONE batch entry, in plain formulas over the extended reals: the gate, one step of the state, the
  output of a step, and the state before step `n`. Both programs are compared with these.
-/
module

public import Idealize.ShloMosaic.Lib.Pointwise

@[expose] public section

noncomputable section

namespace Cert.Cell

open Idealize.ShloMosaic

/-- The gate of row `i`: `σ (ax i + d i * ∑ j, S i j * k j + bias i)`. -/
def gate (d bias k ax : Fin 64 → EReal) (S : Fin 64 → Fin 64 → EReal) (i : Fin 64) : EReal :=
  Ideal.logistic (ax i + d i * (∑ j : Fin 64, S i j * k j) + bias i)

/-- One step of the state: the old entry and the new product `v i * k j`, mixed by the row's gate. -/
def step (d bias k v ax : Fin 64 → EReal) (S : Fin 64 → Fin 64 → EReal) (i j : Fin 64) : EReal :=
  gate d bias k ax S i * S i j + (1 - gate d bias k ax S i) * (v i * k j)

/-- The output of a step whose new state is `S`: `o * silu o` of the row's product with the query. -/
def out (q : Fin 64 → EReal) (S : Fin 64 → Fin 64 → EReal) (i : Fin 64) : EReal :=
  (∑ j : Fin 64, S i j * q j) * ((∑ j : Fin 64, S i j * q j) * Ideal.logistic (∑ j : Fin 64, S i j * q j))

/-- The state before step `n`, from zero. -/
def state (d bias : Fin 64 → EReal) (k v ax : ℕ → Fin 64 → EReal) : ℕ → Fin 64 → Fin 64 → EReal
  | 0 => fun _ _ => 0
  | n + 1 => step d bias (k n) (v n) (ax n) (state d bias k v ax n)

/-- The output of step `n`. -/
def output (d bias : Fin 64 → EReal) (k v q ax : ℕ → Fin 64 → EReal) (n : ℕ) : Fin 64 → EReal :=
  out (q n) (state d bias k v ax (n + 1))

/-- Entry `e` of the input's projection at batch `b`, time `t`, before the nonlinearity. -/
def inner (X : FVec Ideal ⟨3, ![16, 2048, 1024]⟩ .f32) (W : FVec Ideal ⟨2, ![1024, 1024]⟩ .f32) (b : Fin 16) (t : Fin 2048) (e : Fin 1024) : EReal :=
  ∑ c : Fin 1024, X (ix3 b t c) * W (ix2 e c)

/-- The projection of `silu inner` by a 64-row matrix: entry `m` at batch `b`, time `n` (zero past the last time). -/
def proj (X : FVec Ideal ⟨3, ![16, 2048, 1024]⟩ .f32) (W : FVec Ideal ⟨2, ![1024, 1024]⟩ .f32) (P : FVec Ideal ⟨2, ![64, 1024]⟩ .f32)
    (b : Fin 16) (n : ℕ) (m : Fin 64) : EReal :=
  if h : n < 2048 then ∑ e : Fin 1024, P (ix2 m e) * (inner X W b ⟨n, h⟩ e * Ideal.logistic (inner X W b ⟨n, h⟩ e)) else 0

theorem proj_at (X : FVec Ideal ⟨3, ![16, 2048, 1024]⟩ .f32) (W : FVec Ideal ⟨2, ![1024, 1024]⟩ .f32) (P : FVec Ideal ⟨2, ![64, 1024]⟩ .f32)
    (b : Fin 16) (t : Fin 2048) (m : Fin 64) :
    proj X W P b t.val m = ∑ e : Fin 1024, P (ix2 m e) * (inner X W b t e * Ideal.logistic (inner X W b t e)) :=
  dif_pos t.isLt

/-- The state before step `n` of batch `b`, and the output of step `n`, of the nine arguments. -/
def stateOf (X : FVec Ideal ⟨3, ![16, 2048, 1024]⟩ .f32) (W : FVec Ideal ⟨2, ![1024, 1024]⟩ .f32) (Pk Pv Pa : FVec Ideal ⟨2, ![64, 1024]⟩ .f32)
    (d bias : FVec Ideal ⟨1, ![64]⟩ .f32) (b : Fin 16) : ℕ → Fin 64 → Fin 64 → EReal :=
  state (fun i => d (ix1 i)) (fun i => bias (ix1 i)) (proj X W Pk b) (proj X W Pv b) (proj X W Pa b)

def outputOf (X : FVec Ideal ⟨3, ![16, 2048, 1024]⟩ .f32) (W : FVec Ideal ⟨2, ![1024, 1024]⟩ .f32) (Pk Pv Pq Pa : FVec Ideal ⟨2, ![64, 1024]⟩ .f32)
    (d bias : FVec Ideal ⟨1, ![64]⟩ .f32) (b : Fin 16) (n : ℕ) (i : Fin 64) : EReal :=
  output (fun i => d (ix1 i)) (fun i => bias (ix1 i)) (proj X W Pk b) (proj X W Pv b) (proj X W Pq b) (proj X W Pa b) n i

end Cert.Cell

end
-- ==== Proof.Trip.lean ====
/-
  What one trip of the scan computes, entry by entry, over the extended reals: column `l` of the kernel's state is row
  `l % 64` of the cell of batch `l / 64`, and the trip is that cell's step.
-/
module

public import proofs.«01_k».proof.Proof.Scan
public import proofs.«01_k».proof.Proof.Cell

@[expose] public section

set_option maxRecDepth 16384

noncomputable section

namespace Cert.KernelIdeal.Hand

open Cert.KernelIdeal.Gen
open Idealize.ShloMosaic

/-- The batch (of eight) a column belongs to. -/
def colB (l : Fin 512) : Fin 8 := ⟨l.val / 64, by omega⟩
/-- The row of the batch's state a column holds. -/
def colI (l : Fin 512) : Fin 64 := ⟨l.val % 64, by omega⟩
/-- The column of batch `b`, row `i`. -/
def col (b : Fin 8) (i : Fin 64) : Fin 512 := ⟨b.val * 64 + i.val, by omega⟩

theorem col_eq (l : Fin 512) : col (colB l) (colI l) = l := Fin.ext (by simp only [col, colB, colI]; omega)
theorem colB_col (b : Fin 8) (i : Fin 64) : colB (col b i) = b := Fin.ext (by simp only [col, colB]; omega)
theorem colI_col (b : Fin 8) (i : Fin 64) : colI (col b i) = i := Fin.ext (by simp only [col, colI]; omega)

/-- Batch `b`'s state inside the kernel's: entry `(i, j)` is row `j`, column `64 b + i`. -/
def cellOf8 (s : Vec Ideal S64x512 .f32) (b : Fin 8) (i j : Fin 64) : EReal := s (ix2 j (col b i))

variable (v3 : Vec Ideal S1x512 .f32) (v5 : Vec Ideal S8x512 .f32) (s : Vec Ideal S64x512 .f32)
  (w0 w1 : Vec Ideal S1x8x64 .f32) (w3 w2 : Vec Ideal S1x512 .f32)

/-- The product with the 0/1 matrix picks the column's own batch. -/
theorem pick (hv5 : ∀ b l, v5 (ix2 b l) = if b = colB l then 1 else 0) (f : Fin 8 → EReal) (l : Fin 512) :
    ∑ b : Fin 8, f b * v5 (ix2 b l) = f (colB l) := by
  simp only [hv5, mul_ite, mul_one, mul_zero, Finset.sum_ite_eq', Finset.mem_univ, if_true]

/-- The trip's new state, read at row `j` of column `l`: the step of the column's batch. -/
theorem pay11_at (hv5 : ∀ b l, v5 (ix2 b l) = if b = colB l then 1 else 0)
    (d bias : Fin 64 → EReal) (k v ax : Fin 8 → Fin 64 → EReal)
    (hv3 : ∀ l, v3 (ix2 0 l) = d (colI l)) (h0 : ∀ b j, w0 (ix3 0 b j) = k b j)
    (h3 : ∀ l, w3 (ix2 0 l) = ax (colB l) (colI l) + bias (colI l)) (h2 : ∀ l, w2 (ix2 0 l) = v (colB l) (colI l))
    (j : Fin 64) (l : Fin 512) :
    k1_pay11 v3 v5 s w0 w3 w2 (ix2 j l)
      = Cert.Cell.step d bias (k (colB l)) (v (colB l)) (ax (colB l)) (cellOf8 s (colB l)) (colI l) j := by
  pointwise [k1_pay11, k1_pay10]
  simp only [pick v5 hv5, hv3, h0, h3, h2, Cert.Cell.step, Cert.Cell.gate, cellOf8, col_eq]
  rw [mul_assoc (1 - _) (v _ _), add_right_comm]

/-- The row the trip stores, read at column `l`: the step's output. -/
theorem pay12_at (hv5 : ∀ b l, v5 (ix2 b l) = if b = colB l then 1 else 0)
    (q : Fin 8 → Fin 64 → EReal) (h1 : ∀ b j, w1 (ix3 0 b j) = q b j) (l : Fin 512) :
    k1_pay12 v3 v5 s w0 w3 w2 w1 (ix2 0 l)
      = Cert.Cell.out (q (colB l)) (cellOf8 (k1_pay11 v3 v5 s w0 w3 w2) (colB l)) (colI l) := by
  generalize hz : k1_pay11 v3 v5 s w0 w3 w2 = z
  unfold k1_pay12
  simp only [hz]
  pointwise [k1_pay10]
  simp only [pick v5 hv5, h1, Cert.Cell.out, cellOf8, col_eq]
  rw [mul_assoc]

theorem off1_eq : ∀ k : Fin k1_t1_loop.trips, k1_off1 k = ![0, 8 * k.val, 0] := by decide +kernel
theorem off2_eq : ∀ k : Fin k1_t1_loop.trips, k1_off2 k = ![k.val, 0] := by decide +kernel
theorem trips_le : ∀ k : Fin k1_t1_loop.trips, k.val < 256 := by decide +kernel

/-- The eight rows trip `k` loads: rows `8k …`. -/
theorem ld_kq (x : Vec Ideal S1x2048x64 .f32) (k : Fin k1_t1_loop.trips) (b : Fin 8) (j : Fin 64) :
    View.ld x (rKQ k) (ix3 0 b j) = x (ix3 0 ⟨8 * k.val + b.val, by have := trips_le k; omega⟩ j) := by
  pointwise []
  refine congrArg x ?_
  refine (ix3_inj _ _ _ _ _ _).mpr ⟨Fin.ext ?_, Fin.ext ?_, Fin.ext ?_⟩
  · show k1_off1 k 0 = 0; rw [off1_eq]; rfl
  · show k1_off1 k 1 + b.val = 8 * k.val + b.val; rw [off1_eq]; rfl
  · show k1_off1 k 2 + j.val = j.val; rw [off1_eq]; exact Nat.zero_add _

/-- The row trip `k` loads: row `k`. -/
theorem ld_row (x : Vec Ideal S256x512 .f32) (k : Fin k1_t1_loop.trips) (l : Fin 512) :
    View.ld x (rRow k) (ix2 0 l) = x (ix2 ⟨k.val, trips_le k⟩ l) := by
  pointwise []
  refine congrArg x ?_
  refine (ix2_inj _ _ _ _).mpr ⟨Fin.ext ?_, Fin.ext ?_⟩
  · show k1_off2 k 0 = k.val; rw [off2_eq]; rfl
  · show k1_off2 k 1 + l.val = l.val; rw [off2_eq]; exact Nat.zero_add _

end Cert.KernelIdeal.Hand

end
-- ==== Proof.Point.lean ====
/-
  What one grid point of the scan computes, over the extended reals: from the states of its eight batches at time `T`
  it goes to their states at time `T + 256`, and row `κ` of the output scratch holds their outputs at time `T + κ`.
-/
module

public import proofs.«01_k».proof.Proof.Trip
public import proofs.«01_k».proof.Proof.Region1
public import Idealize.ShloMosaic.Lib.Pipeline.ValueKit

@[expose] public section

set_option maxRecDepth 16384

noncomputable section

namespace Cert.KernelIdeal.Hand

open Cert.KernelIdeal.Gen
open Idealize.ShloMosaic

/-- The blocks of one grid point hold the cell's inputs of eight batches at the times `T … T + 255`. -/
structure Feeds (x0 x1 : Vec Ideal S1x2048x64 .f32) (x2 x3 : Vec Ideal S256x512 .f32) (x4 : Vec Ideal S1x512 .f32)
    (x5 : Vec Ideal S8x512 .f32) (T : ℕ) (d bias : Fin 64 → EReal) (k v q ax : Fin 8 → ℕ → Fin 64 → EReal) : Prop where
  key : ∀ (κ : Fin 256) (b : Fin 8) (j : Fin 64), x0 (ix3 0 ⟨8 * κ.val + b.val, by omega⟩ j) = k b (T + κ.val) j
  query : ∀ (κ : Fin 256) (b : Fin 8) (j : Fin 64), x1 (ix3 0 ⟨8 * κ.val + b.val, by omega⟩ j) = q b (T + κ.val) j
  value : ∀ (κ : Fin 256) (l : Fin 512), x2 (ix2 κ l) = v (colB l) (T + κ.val) (colI l)
  pre : ∀ (κ : Fin 256) (l : Fin 512), x3 (ix2 κ l) = ax (colB l) (T + κ.val) (colI l) + bias (colI l)
  scale : ∀ l : Fin 512, x4 (ix2 0 l) = d (colI l)
  own : ∀ (b : Fin 8) (l : Fin 512), x5 (ix2 b l) = if b = colB l then 1 else 0

/-- Whole loads are the buffer itself. -/
theorem ld_rD (x : Vec Ideal S1x512 .f32) : View.ld x rD = x := View.ld_unit_zero (by funext a; fin_cases a <;> rfl) _ _
theorem ld_rE (x : Vec Ideal S8x512 .f32) : View.ld x rE = x := View.ld_unit_zero (by funext a; fin_cases a <;> rfl) _ _
theorem ld_rS (x : Vec Ideal S64x512 .f32) : View.ld x rS = x := View.ld_unit_zero (by funext a; fin_cases a <;> rfl) _ _
theorem ld_rW (x : Vec Ideal S64x1024 .f32) : View.ld x rW = x := View.ld_unit_zero (by funext a; fin_cases a <;> rfl) _ _

/-- The state goes over a point unchanged. -/
theorem keepS_eq (s : Vec Ideal S64x512 .f32) : keepS s = s := by
  have h : k1_pay13 s = s := by
    funext y
    idx_vars y
    pointwise [k1_pay13]
  rw [keepS, h]
  exact View.canon_cons_unit_zero (by funext a; fin_cases a <;> rfl) _ _ _

/-- The state a batch's first point starts from is zero. -/
theorem pay9_at (b : Fin 8) (i j : Fin 64) : cellOf8 (k1_pay9 (F := Ideal)) b i j = 0 := by
  unfold cellOf8
  pointwise [k1_pay9]

section
variable {x0 x1 : Vec Ideal S1x2048x64 .f32} {x2 x3 : Vec Ideal S256x512 .f32} {x4 : Vec Ideal S1x512 .f32}
    {x5 : Vec Ideal S8x512 .f32} {T : ℕ} {d bias : Fin 64 → EReal} {k v q ax : Fin 8 → ℕ → Fin 64 → EReal}

/-- One trip takes the cells one step on. -/
theorem tripS_cell (H : Feeds x0 x1 x2 x3 x4 x5 T d bias k v q ax) (κ : Fin k1_t1_loop.trips) (s : Vec Ideal S64x512 .f32) (b : Fin 8) :
    cellOf8 (tripS x0 x2 x3 x4 x5 κ s) b
      = Cert.Cell.step d bias (k b (T + κ.val)) (v b (T + κ.val)) (ax b (T + κ.val)) (cellOf8 s b) := by
  funext i j
  have h := pay11_at x4 x5 s (View.ld x0 (rKQ κ)) (View.ld x3 (rRow κ)) (View.ld x2 (rRow κ)) H.own d bias
    (fun b => k b (T + κ.val)) (fun b => v b (T + κ.val)) (fun b => ax b (T + κ.val)) H.scale
    (fun b j => (ld_kq x0 κ b j).trans (H.key ⟨κ.val, trips_le κ⟩ b j))
    (fun l => (ld_row x3 κ l).trans (H.pre ⟨κ.val, trips_le κ⟩ l))
    (fun l => (ld_row x2 κ l).trans (H.value ⟨κ.val, trips_le κ⟩ l)) j (col b i)
  rw [colB_col, colI_col] at h
  exact h

/-- The row a trip stores is the cells' output. -/
theorem tripO_cell (H : Feeds x0 x1 x2 x3 x4 x5 T d bias k v q ax) (κ : Fin k1_t1_loop.trips) (s : Vec Ideal S64x512 .f32) (l : Fin 512) :
    tripO x0 x1 x2 x3 x4 x5 κ s (ix2 0 l)
      = Cert.Cell.out (q (colB l) (T + κ.val)) (cellOf8 (tripS x0 x2 x3 x4 x5 κ s) (colB l)) (colI l) :=
  pay12_at x4 x5 s (View.ld x0 (rKQ κ)) (View.ld x1 (rKQ κ)) (View.ld x3 (rRow κ)) (View.ld x2 (rRow κ)) H.own
    (fun b => q b (T + κ.val)) (fun b j => (ld_kq x1 κ b j).trans (H.query ⟨κ.val, trips_le κ⟩ b j)) l

/-- The carried state before trip `n` is the cells' states before step `T + n`. -/
theorem scanS_cell (H : Feeds x0 x1 x2 x3 x4 x5 T d bias k v q ax) (s : Vec Ideal S64x512 .f32)
    (hs : ∀ b, cellOf8 s b = Cert.Cell.state d bias (k b) (v b) (ax b) T) (n : ℕ) (hn : n ≤ 256) (b : Fin 8) :
    cellOf8 (scanS x0 x2 x3 x4 x5 s n) b = Cert.Cell.state d bias (k b) (v b) (ax b) (T + n) := by
  induction n with
  | zero => rw [scanS_zero]; exact hs b
  | succ n ih =>
    have e := scanS_succ x0 x2 x3 x4 x5 s ⟨n, by rw [trips_eq]; omega⟩
    simp only at e
    rw [e, tripS_cell H, ih (by omega)]
    rfl

/-- The rows stored before trip `n`: row `κ` holds the outputs of step `T + κ`. -/
theorem scanL_cell (H : Feeds x0 x1 x2 x3 x4 x5 T d bias k v q ax) (s : Vec Ideal S64x512 .f32)
    (hs : ∀ b, cellOf8 s b = Cert.Cell.state d bias (k b) (v b) (ax b) T) (n : ℕ) (hn : n ≤ 256) (κ : Fin 256) (hκ : κ.val < n) (l : Fin 512) :
    View.canon (scanL x0 x1 x2 x3 x4 x5 s n) (ix2 κ l)
      = Cert.Cell.output d bias (k (colB l)) (v (colB l)) (q (colB l)) (ax (colB l)) (T + κ.val) (colI l) := by
  induction n with
  | zero => exact absurd hκ (Nat.not_lt_zero _)
  | succ n ih =>
    have hlt : n < k1_t1_loop.trips := by rw [trips_eq]; omega
    have e := scanL_succ x0 x1 x2 x3 x4 x5 s ⟨n, hlt⟩
    simp only at e
    rw [e]
    by_cases h : κ.val = n
    · have hy : (ix2 κ l : S256x512.Idx) = (rRow ⟨n, hlt⟩).emb (ix2 (0 : Fin 1) l) := by
        funext a
        have ho := off2_eq ⟨n, hlt⟩
        fin_cases a
        · refine Fin.ext ?_
          show κ.val = k1_off2 ⟨n, hlt⟩ 0 + 1 * 0
          rw [ho]; exact h
        · refine Fin.ext ?_
          show l.val = k1_off2 ⟨n, hlt⟩ 1 + 1 * l.val
          rw [ho]; show l.val = 0 + 1 * l.val; omega
      rw [hy, View.canon_cons_emb]
      refine (tripO_cell H ⟨n, hlt⟩ _ l).trans ?_
      rw [tripS_cell H, scanS_cell H s hs n (by omega), h]
      rfl
    · rw [View.canon_cons_of_not_mem]
      · exact ih (by omega) (by omega)
      · intro hm
        obtain ⟨x, hx⟩ := (rRow ⟨n, hlt⟩).exists_idx_of_mem hm
        have h0 := congrArg (fun z : S256x512.Idx => (z 0).val) hx
        have ho := off2_eq ⟨n, hlt⟩
        have h1 : k1_off2 ⟨n, hlt⟩ 0 + 1 * (x 0).val = κ.val := h0
        have h2 : (x 0).val = 0 := by have := (x 0).isLt; exact Nat.lt_one_iff.mp this
        rw [ho, h2] at h1
        exact h h1.symm

/-- A point takes its eight cells 256 steps on. -/
theorem ptS_cell (H : Feeds x0 x1 x2 x3 x4 x5 T d bias k v q ax) (s : Vec Ideal S64x512 .f32)
    (hs : ∀ b, cellOf8 s b = Cert.Cell.state d bias (k b) (v b) (ax b) T) (b : Fin 8) :
    cellOf8 (ptS x0 x2 x3 x4 x5 s) b = Cert.Cell.state d bias (k b) (v b) (ax b) (T + 256) := by
  rw [ptS, ld_rD, ld_rE, trips_eq]
  exact scanS_cell H s hs 256 le_rfl b

/-- Its output scratch holds the cells' 256 outputs. -/
theorem ptO_cell (H : Feeds x0 x1 x2 x3 x4 x5 T d bias k v q ax) (s : Vec Ideal S64x512 .f32)
    (hs : ∀ b, cellOf8 s b = Cert.Cell.state d bias (k b) (v b) (ax b) T) (κ : Fin 256) (l : Fin 512) :
    ptO x0 x1 x2 x3 x4 x5 s (ix2 κ l)
      = Cert.Cell.output d bias (k (colB l)) (v (colB l)) (q (colB l)) (ax (colB l)) (T + κ.val) (colI l) := by
  rw [ptO, ld_rD, ld_rE, trips_eq]
  exact scanL_cell H s hs 256 le_rfl κ κ.isLt l
end

end Cert.KernelIdeal.Hand

end
-- ==== Proof.PointOut.lean ====
/-
  The blocks one grid point of the scan writes, entry by entry: the output block is the output scratch times the
  output weights, and the final-state block is the carried state, batch by batch.
-/
module

public import proofs.«01_k».proof.Proof.Point

@[expose] public section

set_option maxRecDepth 16384

noncomputable section

namespace Cert.KernelIdeal.Hand

open Cert.KernelIdeal.Gen
open Idealize.ShloMosaic

/-- The product of eight stacked pieces with the weights: entry `(b, κ, e)` reads row `κ` of piece `b`. -/
theorem pay1_at (p : Fin 8 → Vec Ideal S256x64 .f32) (w : Vec Ideal S64x1024 .f32) (b : Fin 8) (κ : Fin 256) (e : Fin 1024) :
    k1_pay1 (p 0) (p 1) (p 2) (p 3) (p 4) (p 5) (p 6) (p 7) w (ix3 b κ e) = ∑ n : Fin 64, p b (ix2 κ n) * w (ix2 n e) := by
  pointwise [k1_pay1]
  refine Finset.sum_congr rfl fun n _ => congrArg (· * w (ix2 n e)) ?_
  have hκ := κ.isLt
  rcases b with ⟨b, hb⟩
  dsimp only
  interval_cases b
  all_goals
    repeat rw [dif_neg (by omega)]
    try rw [dif_pos (by omega)]
    exact congrArg (p _) ((ix2_inj _ _ _ _).mpr ⟨Fin.ext (by dsimp only; omega), rfl⟩)

/-- The columns of batch `b` in a load of 64 columns. -/
theorem ld_cols (o : Vec Ideal S256x512 .f32) (b : Fin 8) (off : Fin 2 → ℕ) (inb : ∀ a, off a + S256x64.size a ≤ S256x512.size a)
    (h0 : off 0 = 0) (h1 : off 1 = b.val * 64) (κ : Fin 256) (n : Fin 64) :
    (View.ld o (Rect.unit (s := S256x512) off S256x64.size inb) : Vec Ideal S256x64 .f32) (ix2 κ n) = o (ix2 κ (col b n)) := by
  refine View.ld_unit_apply_of o off S256x64.size inb _ _ fun a => ?_
  fin_cases a
  · show κ.val = off 0 + κ.val
    omega
  · show b.val * 64 + n.val = off 1 + n.val
    omega

/-- Entry `(b, κ, e)` of the output block: the scratch's row `κ`, columns of batch `b`, times column `e` of the weights. -/
theorem out1_7_at (o : Vec Ideal S256x512 .f32) (w : Vec Ideal S64x1024 .f32) (b : Fin 8) (κ : Fin 256) (e : Fin 1024) :
    out1_7 o w (ix3 b κ e) = ∑ n : Fin 64, o (ix2 κ (col b n)) * w (ix2 n e) := by
  have h := pay1_at ![View.ld o (Rect.unit (s := S256x512) ![0, 0] S256x64.size inb_S256x512_S256x64_0_0),
    View.ld o (Rect.unit (s := S256x512) ![0, 64] S256x64.size inb_S256x512_S256x64_0_64),
    View.ld o (Rect.unit (s := S256x512) ![0, 128] S256x64.size inb_S256x512_S256x64_0_128),
    View.ld o (Rect.unit (s := S256x512) ![0, 192] S256x64.size inb_S256x512_S256x64_0_192),
    View.ld o (Rect.unit (s := S256x512) ![0, 256] S256x64.size inb_S256x512_S256x64_0_256),
    View.ld o (Rect.unit (s := S256x512) ![0, 320] S256x64.size inb_S256x512_S256x64_0_320),
    View.ld o (Rect.unit (s := S256x512) ![0, 384] S256x64.size inb_S256x512_S256x64_0_384),
    View.ld o (Rect.unit (s := S256x512) ![0, 448] S256x64.size inb_S256x512_S256x64_0_448)] w b κ e
  rw [out1_7, ld_rW, View.canon_cons_unit_zero (by funext a; fin_cases a <;> rfl)]
  refine Eq.trans h (Finset.sum_congr rfl fun n _ => congrArg (· * w (ix2 n e)) ?_)
  fin_cases b <;> exact ld_cols o _ _ _ rfl rfl κ n

/-- Entry `(b, i, j)` of the final-state block: entry `(i, j)` of batch `b`'s state. -/
theorem out1_8_at (s : Vec Ideal S64x512 .f32) (b : Fin 8) (i j : Fin 64) :
    out1_8 s (ix3 b i j) = cellOf8 s b i j := by
  unfold out1_8 cellOf8 pieces8
  canon_tiles x h using cover8 s _
  all_goals
    idx_vars x
    pointwise [k1_pay2, k1_pay3, k1_pay4, k1_pay5, k1_pay6, k1_pay7, k1_pay8, k1_pay14, k1_pay15]
    refine congrArg s ((ix2_inj _ _ _ _).mpr ⟨Fin.ext ?_, Fin.ext ?_⟩) <;>
      simp [col] at * <;> omega

end Cert.KernelIdeal.Hand

end
-- ==== Proof.ScanValue.lean ====
/-
  The arrays call 1 (the scan) leaves, over the extended reals, from what its operands hold: the carried state before
  a point is the eight cells' state at the point's first time step, so the output array is the cells' outputs times the
  output weights, and the final-state array is the cells' state after the last step.
-/
module

public import proofs.«01_k».proof.Proof.PointOut
public import proofs.«01_k».proof.Proof.Body1

@[expose] public section

set_option maxRecDepth 16384

noncomputable section

namespace Cert.KernelIdeal.Hand

open Cert.KernelIdeal.Gen
open Idealize.ShloMosaic Idealize.ShloMosaic.TcCoe
open Idealize.ShloMosaic.Pipeline (Dat Cfg Window)

/-- What the operands of call 1 hold, for sixteen batches and 2048 time steps. -/
structure Operands (A0 A1 : Vec Ideal S2x16384x64 .f32) (A2 A3 : Vec Ideal S2048x1024 .f32) (A4 : Vec Ideal S1x1024 .f32)
    (A5 : Vec Ideal S8x512 .f32) (d bias : Fin 64 → EReal) (k v q ax : Fin 16 → ℕ → Fin 64 → EReal) : Prop where
  key : ∀ (h : Fin 2) (n : Fin 2048) (b : Fin 8) (j : Fin 64),
    A0 (ix3 h ⟨8 * n.val + b.val, by omega⟩ j) = k ⟨8 * h.val + b.val, by omega⟩ n.val j
  query : ∀ (h : Fin 2) (n : Fin 2048) (b : Fin 8) (j : Fin 64),
    A1 (ix3 h ⟨8 * n.val + b.val, by omega⟩ j) = q ⟨8 * h.val + b.val, by omega⟩ n.val j
  value : ∀ (n : Fin 2048) (b : Fin 16) (i : Fin 64), A2 (ix2 n ⟨b.val * 64 + i.val, by omega⟩) = v b n.val i
  pre : ∀ (n : Fin 2048) (b : Fin 16) (i : Fin 64), A3 (ix2 n ⟨b.val * 64 + i.val, by omega⟩) = ax b n.val i + bias i
  scale : ∀ (b : Fin 16) (i : Fin 64), A4 (ix2 0 ⟨b.val * 64 + i.val, by omega⟩) = d i
  own : ∀ (b : Fin 8) (l : Fin 512), A5 (ix2 b l) = if b = colB l then 1 else 0

/-- The block indices of call 1's windows at a point. -/
theorem idx1 : ∀ t : Fin cfg1.N, win1_0.index t = ![t.val / 8, t.val % 8, 0] ∧ win1_1.index t = ![t.val / 8, t.val % 8, 0]
    ∧ win1_2.index t = ![t.val % 8, t.val / 8] ∧ win1_3.index t = ![t.val % 8, t.val / 8] ∧ win1_4.index t = ![0, t.val / 8]
    ∧ win1_5.index t = ![0, 0] ∧ win1_6.index t = ![0, 0] ∧ win1_7.index t = ![t.val / 8, t.val % 8, 0]
    ∧ win1_8.index t = ![t.val / 8, 0, 0] :=
  (by decide +kernel : ∀ t : Fin grid1.N, _)

variable (V : (c : Dev nD) → (b : Ref sig .tc) → Buf (Elt Ideal) ((c : Thread nD τ).loc b)) (c : Dev nD)
  {d bias : Fin 64 → EReal} {k v q ax : Fin 16 → ℕ → Fin 64 → EReal}

/-- The batch at place `b` of the half point `t` works on. -/
def half (t : Fin cfg1.N) (b : Fin 8) : Fin 16 := ⟨8 * (t.val / 8) + b.val, by have := Nat.lt_of_lt_of_eq t.isLt N_1; omega⟩

/-- A point's blocks hold the cells' inputs of its half of the batches, at its 256 time steps. -/
theorem feeds (H : Operands (V c main_v9) (V c main_v12) (V c main_v6_2) (V c main_v6_3) (V c main_v16) (V c main_v24) d bias k v q ax)
    (t : Fin cfg1.N) :
    Feeds (iblk1 V c 0 t) (iblk1 V c 1 t) (iblk1 V c 2 t) (iblk1 V c 3 t) (iblk1 V c 4 t) (iblk1 V c 5 t) (256 * (t.val % 8)) d bias
      (fun b => k (half t b)) (fun b => v (half t b)) (fun b => q (half t b)) (fun b => ax (half t b)) := by
  have ht : t.val < 16 := Nat.lt_of_lt_of_eq t.isLt N_1
  obtain ⟨h0, h1, h2, h3, h4, h5, -, -, -⟩ := idx1 t
  constructor
  · intro κ b j
    refine Eq.trans ?_ (H.key ⟨t.val / 8, by omega⟩ ⟨256 * (t.val % 8) + κ.val, by omega⟩ b j)
    blk_ext [iblk1, h0]
  · intro κ b j
    refine Eq.trans ?_ (H.query ⟨t.val / 8, by omega⟩ ⟨256 * (t.val % 8) + κ.val, by omega⟩ b j)
    blk_ext [iblk1, h1]
  · intro κ l
    refine Eq.trans ?_ (H.value ⟨256 * (t.val % 8) + κ.val, by omega⟩ (half t (colB l)) (colI l))
    blk_ext [iblk1, h2, half, colB, colI]
  · intro κ l
    refine Eq.trans ?_ (H.pre ⟨256 * (t.val % 8) + κ.val, by omega⟩ (half t (colB l)) (colI l))
    blk_ext [iblk1, h3, half, colB, colI]
  · intro l
    refine Eq.trans ?_ (H.scale (half t (colB l)) (colI l))
    blk_ext [iblk1, h4, half, colB, colI]
  · intro b l
    refine Eq.trans ?_ (H.own b l)
    blk_ext [iblk1, h5]

/-- The state a point starts from: the cells' state at the point's first time step. -/
theorem begS_cell (H : Operands (V c main_v9) (V c main_v12) (V c main_v6_2) (V c main_v6_3) (V c main_v16) (V c main_v24) d bias k v q ax)
    (n : ℕ) (hn : n < cfg1.N) (b : Fin 8) :
    cellOf8 (begS V c ⟨n, hn⟩) b
      = Cert.Cell.state d bias (k (half ⟨n, hn⟩ b)) (v (half ⟨n, hn⟩ b)) (ax (half ⟨n, hn⟩ b)) (256 * (n % 8)) := by
  induction n generalizing b with
  | zero =>
    have h0 : condInit (grid1.coords (⟨0, hn⟩ : Fin cfg1.N)) := (hcond1_0 ⟨0, hn⟩).mpr rfl
    rw [begS, startS, if_pos h0]
    funext i j
    exact pay9_at b i j
  | succ n ih =>
    have hn' : n < cfg1.N := Nat.lt_of_succ_lt hn
    by_cases h : (n + 1) % 8 = 0
    · have h0 : condInit (grid1.coords (⟨n + 1, hn⟩ : Fin cfg1.N)) := (hcond1_0 ⟨n + 1, hn⟩).mpr h
      rw [begS, startS, if_pos h0, h]
      funext i j
      exact pay9_at b i j
    · have h0 : ¬condInit (grid1.coords (⟨n + 1, hn⟩ : Fin cfg1.N)) := fun hc => h ((hcond1_0 ⟨n + 1, hn⟩).mp hc)
      have hb := befS_succ V c ⟨n, hn'⟩
      simp only at hb
      rw [begS, startS, if_neg h0, ld_rS, hb, keepS_eq, endS,
        ptS_cell (feeds V c H ⟨n, hn'⟩) _ (fun b => ih hn' b) b]
      have e1 : half ⟨n, hn'⟩ b = half ⟨n + 1, hn⟩ b := Fin.ext (by simp only [half]; omega)
      have e2 : 256 * (n % 8) + 256 = 256 * ((n + 1) % 8) := by omega
      simp only [e1, e2]

/-- The output array as a function of its index: the outputs of batch `b` at time `t`, times column `e` of the output weights. -/
def outArr (d bias : Fin 64 → EReal) (k v q ax : Fin 16 → ℕ → Fin 64 → EReal) (w : Vec Ideal S64x1024 .f32) : Vec Ideal S16x2048x1024 .f32 := fun y =>
  ∑ n : Fin 64, Cert.Cell.output d bias (k (y 0)) (v (y 0)) (q (y 0)) (ax (y 0)) (y 1).val n * w (ix2 n (y 2))

/-- The final-state array as a function of its index. -/
def stateArr (d bias : Fin 64 → EReal) (k v ax : Fin 16 → ℕ → Fin 64 → EReal) : Vec Ideal S16x64x64 .f32 := fun y =>
  Cert.Cell.state d bias (k (y 0)) (v (y 0)) (ax (y 0)) 2048 (y 1) (y 2)

/-- The output scratch after a point: the cells' outputs of its half of the batches, at its 256 time steps. -/
theorem outs_cell (H : Operands (V c main_v9) (V c main_v12) (V c main_v6_2) (V c main_v6_3) (V c main_v16) (V c main_v24) d bias k v q ax)
    (t : Fin cfg1.N) (b : Fin 8) (κ : Fin 256) (n : Fin 64) :
    ptO (iblk1 V c 0 t) (iblk1 V c 1 t) (iblk1 V c 2 t) (iblk1 V c 3 t) (iblk1 V c 4 t) (iblk1 V c 5 t) (begS V c t) (ix2 κ (col b n))
      = Cert.Cell.output d bias (k (half t b)) (v (half t b)) (q (half t b)) (ax (half t b)) (256 * (t.val % 8) + κ.val) n := by
  rw [ptO_cell (feeds V c H t) _ (fun b => begS_cell V c H t.val t.isLt b) κ (col b n), colB_col, colI_col]

/-- The output array after the call. -/
theorem arr7 (H : Operands (V c main_v9) (V c main_v12) (V c main_v6_2) (V c main_v6_3) (V c main_v16) (V c main_v24) d bias k v q ax) :
    (dat1 V c).arrAt 7 cfg1.N = outArr d bias k v q ax (V c main_v25) := by
  refine (dat1 V c).arrAt_eq_of_covers 7 (outArr d bias k v q ax (V c main_v25)) (by decide +kernel) fun t hf y => ?_
  have ht : t.val < 16 := Nat.lt_of_lt_of_eq t.isLt N_1
  obtain ⟨-, -, -, -, -, -, h6, h7, -⟩ := idx1 t
  blk_simp
  rw [after1_7]
  have hw : iblk1 V c 6 t = V c main_v25 := by
    funext z
    blk_ext [iblk1, h6]
  rw [blk7, hw]
  idx_vars y
  refine Eq.trans (b := outArr d bias k v q ax (V c main_v25) (ix3 (half t y0) ⟨256 * (t.val % 8) + y1.val, by omega⟩ y2)) ?_ ?_
  · exact (out1_7_at _ _ y0 y1 y2).trans (Finset.sum_congr rfl fun n _ =>
      congrArg (· * (V c main_v25 : Vec Ideal S64x1024 .f32) (ix2 n y2)) (outs_cell V c H t y0 y1 n))
  · blk_ext [h7, half]

/-- The final-state array after the call. -/
theorem arr8 (H : Operands (V c main_v9) (V c main_v12) (V c main_v6_2) (V c main_v6_3) (V c main_v16) (V c main_v24) d bias k v q ax) :
    (dat1 V c).arrAt 8 cfg1.N = stateArr d bias k v ax := by
  refine (dat1 V c).arrAt_eq_of_covers 8 (stateArr d bias k v ax) (by decide +kernel) fun t hf y => ?_
  have ht : t.val < 16 := Nat.lt_of_lt_of_eq t.isLt N_1
  have h7 := (flush1_8 t).mp hf
  obtain ⟨-, -, -, -, -, -, -, -, h8⟩ := idx1 t
  blk_simp
  rw [after1_8, blk8]
  idx_vars y
  refine Eq.trans ?_ (show stateArr d bias k v ax (ix3 (half t y0) y1 y2)
    = stateArr d bias k v ax ((win1_8.blk t).view.emb (ix3 y0 y1 y2)) from ?_)
  · rw [out1_8_at, endS, ptS_cell (feeds V c H t) _ (fun b => begS_cell V c H t.val t.isLt b) y0, h7]
    rfl
  · blk_ext [h8, half]

end Cert.KernelIdeal.Hand

end
-- ==== Proof.Host.lean ====
/-
  What the host operations of the kernel leave in the calls' operands, entry by entry.
-/
module

public import proofs.«01_k».proof.Proof.Run
public import proofs.«01_k».proof.Proof.ScanValue
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe

variable (W : Valuation τ sig (Elt Ideal))

/-- The transposed input weights. -/
theorem host_v0 (e x : Fin 1024) : (StableHlo.after hostOps0 W (Proc.devRef .tc main_v0) : Vec Ideal S1024x1024 .f32) (ix2 x e)
    = (W (Proc.devRef .tc main_arg1) : Vec Ideal S1024x1024 .f32) (ix2 e x) := by
  after_reads_at

/-- The stacked projection weights, transposed: columns `0 … 63` are the rows of the key weights, … -/
theorem host_v2_k (e : Fin 1024) (i : Fin 64) :
    (StableHlo.after hostOps0 W (Proc.devRef .tc main_v2) : Vec Ideal S1024x256 .f32) (ix2 e ⟨i.val, by omega⟩)
      = (W (Proc.devRef .tc main_arg2) : Vec Ideal S64x1024 .f32) (ix2 i e) := by
  after_reads_at
  after_reads_simp

/-- … columns `64 … 127` of the value weights, … -/
theorem host_v2_v (e : Fin 1024) (i : Fin 64) :
    (StableHlo.after hostOps0 W (Proc.devRef .tc main_v2) : Vec Ideal S1024x256 .f32) (ix2 e ⟨64 + i.val, by omega⟩)
      = (W (Proc.devRef .tc main_arg3) : Vec Ideal S64x1024 .f32) (ix2 i e) := by
  after_reads_at
  after_reads_simp

/-- … columns `128 … 191` of the query weights, … -/
theorem host_v2_q (e : Fin 1024) (i : Fin 64) :
    (StableHlo.after hostOps0 W (Proc.devRef .tc main_v2) : Vec Ideal S1024x256 .f32) (ix2 e ⟨128 + i.val, by omega⟩)
      = (W (Proc.devRef .tc main_arg4) : Vec Ideal S64x1024 .f32) (ix2 i e) := by
  after_reads_at
  rw [dif_neg (by omega), dif_neg (by omega), dif_pos (by omega)]
  after_reads_simp
  exact congrArg (W (Proc.devRef .tc main_arg4) : Vec Ideal S64x1024 .f32) ((ix2_inj _ _ _ _).mpr ⟨Fin.ext (by dsimp only; omega), rfl⟩)

/-- … and columns `192 … 255` of the gate's weights. -/
theorem host_v2_a (e : Fin 1024) (i : Fin 64) :
    (StableHlo.after hostOps0 W (Proc.devRef .tc main_v2) : Vec Ideal S1024x256 .f32) (ix2 e ⟨192 + i.val, by omega⟩)
      = (W (Proc.devRef .tc main_arg5) : Vec Ideal S64x1024 .f32) (ix2 i e) := by
  after_reads_at
  rw [dif_neg (by omega), dif_neg (by omega), dif_neg (by omega)]
  after_reads_simp
  exact congrArg (W (Proc.devRef .tc main_arg5) : Vec Ideal S64x1024 .f32) ((ix2_inj _ _ _ _).mpr ⟨Fin.ext (by dsimp only; omega), rfl⟩)

/-- The bias row: zero before column `192`, … -/
theorem host_v5_zero (i : Fin 192) :
    (StableHlo.after hostOps0 W (Proc.devRef .tc main_v5) : Vec Ideal S1x256 .f32) (ix2 0 ⟨i.val, by omega⟩) = (0 : EReal) := by
  after_reads_at
  after_reads_at

/-- … the gate's bias from there on. -/
theorem host_v5_a (i : Fin 64) :
    (StableHlo.after hostOps0 W (Proc.devRef .tc main_v5) : Vec Ideal S1x256 .f32) (ix2 0 ⟨192 + i.val, by omega⟩)
      = (W (Proc.devRef .tc main_arg7) : Vec Ideal S64 .f32) (ix1 i) := by
  after_reads_at
  after_reads_simp

/-- The keys laid out time by time, eight batches a time. -/
theorem host_v9 (h : Fin 2) (n : Fin 2048) (b : Fin 8) (j : Fin 64) :
    (StableHlo.after hostOps1 W (Proc.devRef .tc main_v9) : Vec Ideal S2x16384x64 .f32) (ix3 h ⟨8 * n.val + b.val, by omega⟩ j)
      = (W (Proc.devRef .tc main_v6_0) : Vec Ideal S16x2048x64 .f32) (ix3 ⟨8 * h.val + b.val, by omega⟩ n j) := by
  after_reads_at
  exact congrArg (W (Proc.devRef .tc main_v6_0) : Vec Ideal S16x2048x64 .f32)
    ((ix3_inj _ _ _ _ _ _).mpr ⟨Fin.ext (by dsimp only; omega), rfl, rfl⟩)

/-- The queries likewise. -/
theorem host_v12 (h : Fin 2) (n : Fin 2048) (b : Fin 8) (j : Fin 64) :
    (StableHlo.after hostOps1 W (Proc.devRef .tc main_v12) : Vec Ideal S2x16384x64 .f32) (ix3 h ⟨8 * n.val + b.val, by omega⟩ j)
      = (W (Proc.devRef .tc main_v6_1) : Vec Ideal S16x2048x64 .f32) (ix3 ⟨8 * h.val + b.val, by omega⟩ n j) := by
  after_reads_at
  exact congrArg (W (Proc.devRef .tc main_v6_1) : Vec Ideal S16x2048x64 .f32)
    ((ix3_inj _ _ _ _ _ _).mpr ⟨Fin.ext (by dsimp only; omega), rfl, rfl⟩)

/-- The scale row: the 64 scales, once per batch. -/
theorem host_v16 (b : Fin 16) (i : Fin 64) :
    (StableHlo.after hostOps1 W (Proc.devRef .tc main_v16) : Vec Ideal S1x1024 .f32) (ix2 0 ⟨b.val * 64 + i.val, by omega⟩)
      = (W (Proc.devRef .tc main_arg6) : Vec Ideal S64 .f32) (ix1 i) := by
  after_reads_at
  exact congrArg (fun z : Fin 64 => (W (Proc.devRef .tc main_arg6) : Vec Ideal S64 .f32) (ix1 z)) (Fin.ext (by dsimp only; omega))

/-- The 0/1 matrix: one where the column belongs to the row's batch. -/
theorem host_v24 (b : Fin 8) (l : Fin 512) :
    (StableHlo.after hostOps1 W (Proc.devRef .tc main_v24) : Vec Ideal S8x512 .f32) (ix2 b l)
      = if b = colB l then (1 : EReal) else 0 := by
  after_reads_at
  have key : ∀ b b' : Fin 8, (FloatOps.uitofp (F := Ideal) FTy.f32
      (IntOp.cmpi CmpIPredicate.eq (IntOp.addi (BitVec.ofNat 32 b.val) 0#32) (BitVec.ofNat 32 b'.val)) : EReal) = if b = b' then (1 : EReal) else 0 := by
    intro b b'
    have hc : IntOp.cmpi CmpIPredicate.eq (IntOp.addi (BitVec.ofNat 32 b.val) 0#32) (BitVec.ofNat 32 b'.val) = if b = b' then 1#1 else 0#1 := by
      revert b b'; decide
    rw [hc]
    split <;> simp [FloatOps.uitofp]
  exact key b (colB l)

/-- The transposed output weights. -/
theorem host_v25 (e : Fin 1024) (i : Fin 64) : (StableHlo.after hostOps1 W (Proc.devRef .tc main_v25) : Vec Ideal S64x1024 .f32) (ix2 i e)
    = (W (Proc.devRef .tc main_arg8) : Vec Ideal S1024x64 .f32) (ix2 e i) := by
  after_reads_at

end Cert.KernelIdeal.Hand

end
-- ==== Proof.Proj.lean ====
/-
  What one grid point of call 0 (the projections) computes, entry by entry, over the extended reals.
-/
module

public import proofs.«01_k».proof.Proof.Region0
public import proofs.«01_k».proof.Proof.Cell
public import Idealize.ShloMosaic.Lib.Pipeline.ValueKit

@[expose] public section

set_option maxRecDepth 16384

noncomputable section

namespace Cert.KernelIdeal.Hand

open Cert.KernelIdeal.Gen
open Idealize.ShloMosaic

/-- Whole loads are the buffer itself. -/
theorem ld_r0_0 (x : Vec Ideal S2x1024x1024 .f32) : View.ld x r0_0 = x := View.ld_unit_zero (by funext a; fin_cases a <;> rfl) _ _
theorem ld_r0_1 (x : Vec Ideal S1024x1024 .f32) : View.ld x r0_1 = x := View.ld_unit_zero (by funext a; fin_cases a <;> rfl) _ _
theorem ld_r0_2 (x : Vec Ideal S1024x256 .f32) : View.ld x r0_2 = x := View.ld_unit_zero (by funext a; fin_cases a <;> rfl) _ _
theorem ld_r0_3 (x : Vec Ideal S1x256 .f32) : View.ld x r0_3 = x := View.ld_unit_zero (by funext a; fin_cases a <;> rfl) _ _

variable (x0 : Vec Ideal S2x1024x1024 .f32) (x1 : Vec Ideal S1024x1024 .f32) (x2 : Vec Ideal S1024x256 .f32) (x3 : Vec Ideal S1x256 .f32)

/-- Entry `e` of row `(β, κ)` of the block times the input weights. -/
def blkInner (β : Fin 2) (κ e : Fin 1024) : EReal := ∑ x : Fin 1024, x0 (ix3 β κ x) * x1 (ix2 x e)

/-- Column `p` of that row's `silu`, times the stacked weights, plus the bias row. -/
def blkProj (β : Fin 2) (κ : Fin 1024) (p : Fin 256) : EReal :=
  (∑ e : Fin 1024, blkInner x0 x1 β κ e * Ideal.logistic (blkInner x0 x1 β κ e) * x2 (ix2 e p)) + x3 (ix2 0 p)

/-- The key block. -/
theorem out0_4_at (β : Fin 2) (κ : Fin 1024) (m : Fin 64) :
    out0_4 x0 x1 x2 x3 (ix3 β κ m) = blkProj x0 x1 x2 x3 β κ ⟨m.val, by omega⟩ := by
  rw [out0_4, ld_r0_0, ld_r0_1, ld_r0_2, ld_r0_3, View.canon_cons_unit_zero (by funext a; fin_cases a <;> rfl)]
  pointwise [k0_pay2, k0_pay1]
  rfl

/-- The query block. -/
theorem out0_5_at (β : Fin 2) (κ : Fin 1024) (m : Fin 64) :
    out0_5 x0 x1 x2 x3 (ix3 β κ m) = blkProj x0 x1 x2 x3 β κ ⟨128 + m.val, by omega⟩ := by
  rw [out0_5, ld_r0_0, ld_r0_1, ld_r0_2, ld_r0_3, View.canon_cons_unit_zero (by funext a; fin_cases a <;> rfl)]
  pointwise [k0_pay3, k0_pay1]
  rfl

/-- The value block: column `64 β + m` is entry `m` of the block's batch `β`. -/
theorem out0_6_at (β : Fin 2) (κ : Fin 1024) (m : Fin 64) :
    out0_6 x0 x1 x2 x3 (ix2 κ ⟨β.val * 64 + m.val, by omega⟩) = blkProj x0 x1 x2 x3 β κ ⟨64 + m.val, by omega⟩ := by
  rw [out0_6, ld_r0_0, ld_r0_1, ld_r0_2, ld_r0_3, View.canon_cons_unit_zero (by funext a; fin_cases a <;> rfl)]
  have hκ := κ.isLt
  have h0 : κ.val / 1024 = 0 := by omega
  have h1 : κ.val % 1024 = κ.val := by omega
  have h2 : (1024 + κ.val) / 1024 = 1 := by omega
  fin_cases β
  all_goals
    pointwise [k0_pay4, k0_pay1]
    simp only [h0, h1, h2]
    rfl

/-- The gate block, likewise. -/
theorem out0_7_at (β : Fin 2) (κ : Fin 1024) (m : Fin 64) :
    out0_7 x0 x1 x2 x3 (ix2 κ ⟨β.val * 64 + m.val, by omega⟩) = blkProj x0 x1 x2 x3 β κ ⟨192 + m.val, by omega⟩ := by
  rw [out0_7, ld_r0_0, ld_r0_1, ld_r0_2, ld_r0_3, View.canon_cons_unit_zero (by funext a; fin_cases a <;> rfl)]
  have hκ := κ.isLt
  have h0 : κ.val / 1024 = 0 := by omega
  have h1 : κ.val % 1024 = κ.val := by omega
  have h2 : (1024 + κ.val) / 1024 = 1 := by omega
  fin_cases β
  all_goals
    pointwise [k0_pay5, k0_pay1]
    simp only [h0, h1, h2]
    rfl

end Cert.KernelIdeal.Hand

end
-- ==== Proof.ProjValue.lean ====
/-
  The arrays call 0 (the projections) leaves, over the extended reals, from what its operands hold.
-/
module

public import proofs.«01_k».proof.Proof.Proj

@[expose] public section

set_option maxRecDepth 16384

noncomputable section

namespace Cert.KernelIdeal.Hand

open Cert.KernelIdeal.Gen
open Idealize.ShloMosaic Idealize.ShloMosaic.TcCoe
open Idealize.ShloMosaic.Pipeline (Dat Cfg Window)

/-- Entry `e` of the row of batch `b`, time `n`, times the input weights. -/
def arrInner (X : Vec Ideal S16x2048x1024 .f32) (A1 : Vec Ideal S1024x1024 .f32) (b : Fin 16) (n : Fin 2048) (e : Fin 1024) : EReal :=
  ∑ x : Fin 1024, X (ix3 b n x) * A1 (ix2 x e)

/-- Column `p` of that row's `silu`, times the stacked weights, plus the bias row. -/
def arrProj (X : Vec Ideal S16x2048x1024 .f32) (A1 : Vec Ideal S1024x1024 .f32) (A2 : Vec Ideal S1024x256 .f32) (A3 : Vec Ideal S1x256 .f32)
    (b : Fin 16) (n : Fin 2048) (p : Fin 256) : EReal :=
  (∑ e : Fin 1024, arrInner X A1 b n e * Ideal.logistic (arrInner X A1 b n e) * A2 (ix2 e p)) + A3 (ix2 0 p)

/-- The columns `off … off + 63` of the projections, one matrix per batch. -/
def byBatch (X : Vec Ideal S16x2048x1024 .f32) (A1 : Vec Ideal S1024x1024 .f32) (A2 : Vec Ideal S1024x256 .f32) (A3 : Vec Ideal S1x256 .f32)
    (off : ℕ) (hoff : off ≤ 192) : Vec Ideal S16x2048x64 .f32 := fun y =>
  arrProj X A1 A2 A3 (y 0) (y 1) ⟨off + (y 2).val, by have : (y 2).val < 64 := (y 2).isLt; omega⟩

/-- The same columns, one row per time, the batches side by side. -/
def byTime (X : Vec Ideal S16x2048x1024 .f32) (A1 : Vec Ideal S1024x1024 .f32) (A2 : Vec Ideal S1024x256 .f32) (A3 : Vec Ideal S1x256 .f32)
    (off : ℕ) (hoff : off ≤ 192) : Vec Ideal S2048x1024 .f32 := fun y =>
  arrProj X A1 A2 A3 ⟨(y 1).val / 64, by have : (y 1).val < 1024 := (y 1).isLt; omega⟩ (y 0) ⟨off + (y 1).val % 64, by omega⟩

/-- The block indices of call 0's windows at a point. -/
theorem idx0 : ∀ t : Fin cfg0.N, win0_0.index t = ![t.val / 2, t.val % 2, 0] ∧ win0_1.index t = ![0, 0]
    ∧ win0_2.index t = ![0, 0] ∧ win0_3.index t = ![0, 0] ∧ win0_4.index t = ![t.val / 2, t.val % 2, 0]
    ∧ win0_5.index t = ![t.val / 2, t.val % 2, 0] ∧ win0_6.index t = ![t.val % 2, t.val / 2]
    ∧ win0_7.index t = ![t.val % 2, t.val / 2] :=
  (by decide +kernel : ∀ t : Fin grid0.N, _)

variable (V : (c : Dev nD) → (b : Ref sig .tc) → Buf (Elt Ideal) ((c : Thread nD τ).loc b)) (c : Dev nD)

/-- A point's projections are the arrays' at its two batches and 1024 times. -/
theorem blkProj_eq (t : Fin cfg0.N) (ht : t.val < 16) (β : Fin 2) (κ : Fin 1024) (p : Fin 256) :
    blkProj (iblk0 V c 0 t) (iblk0 V c 1 t) (iblk0 V c 2 t) (iblk0 V c 3 t) β κ p
      = arrProj (V c main_arg0) (V c main_v0) (V c main_v2) (V c main_v5) ⟨2 * (t.val / 2) + β.val, by omega⟩ ⟨1024 * (t.val % 2) + κ.val, by omega⟩ p := by
  obtain ⟨h0, h1, h2, h3, -, -, -, -⟩ := idx0 t
  have e0 : ∀ x : Fin 1024, iblk0 V c 0 t (ix3 β κ x)
      = (V c main_arg0 : Vec Ideal S16x2048x1024 .f32) (ix3 ⟨2 * (t.val / 2) + β.val, by omega⟩ ⟨1024 * (t.val % 2) + κ.val, by omega⟩ x) := fun x => by
    blk_ext [iblk0, h0]
  have e1 : iblk0 V c 1 t = V c main_v0 := by
    funext z
    blk_ext [iblk0, h1]
  have e2 : iblk0 V c 2 t = V c main_v2 := by
    funext z
    blk_ext [iblk0, h2]
  have e3 : iblk0 V c 3 t = V c main_v5 := by
    funext z
    blk_ext [iblk0, h3]
  have ei : ∀ e : Fin 1024, blkInner (iblk0 V c 0 t) (V c main_v0) β κ e
      = arrInner (V c main_arg0) (V c main_v0) ⟨2 * (t.val / 2) + β.val, by omega⟩ ⟨1024 * (t.val % 2) + κ.val, by omega⟩ e := fun e => by
    unfold blkInner arrInner
    exact Finset.sum_congr rfl fun x _ => congrArg (· * (V c main_v0 : Vec Ideal S1024x1024 .f32) (ix2 x e)) (e0 x)
  rw [e1, e2, e3]
  unfold blkProj arrProj
  simp only [ei]

theorem arrProj_congr (X : Vec Ideal S16x2048x1024 .f32) (A1 : Vec Ideal S1024x1024 .f32) (A2 : Vec Ideal S1024x256 .f32) (A3 : Vec Ideal S1x256 .f32)
    {b b' : Fin 16} {n n' : Fin 2048} {p p' : Fin 256} (hb : b.val = b'.val) (hn : n.val = n'.val) (hp : p.val = p'.val) :
    arrProj X A1 A2 A3 b n p = arrProj X A1 A2 A3 b' n' p' := by
  rw [Fin.ext hb, Fin.ext hn, Fin.ext hp]

/-- The key array after the call. -/
theorem arr0_4 : (dat0 V c).arrAt 4 cfg0.N = byBatch (V c main_arg0) (V c main_v0) (V c main_v2) (V c main_v5) 0 (by decide) := by
  refine (dat0 V c).arrAt_eq_of_covers 4 (byBatch (V c main_arg0) (V c main_v0) (V c main_v2) (V c main_v5) 0 (by decide)) (by decide +kernel) fun t hf y => ?_
  have ht : t.val < 16 := Nat.lt_of_lt_of_eq t.isLt N_0
  obtain ⟨-, -, -, -, h4, h5, -, -⟩ := idx0 t
  blk_simp
  rw [after0_4]
  idx_vars y
  refine (out0_4_at _ _ _ _ y0 y1 y2).trans ((blkProj_eq V c t ht y0 y1 _).trans (Eq.trans (b := byBatch (V c main_arg0) (V c main_v0)
    (V c main_v2) (V c main_v5) 0 (by decide) (ix3 ⟨2 * (t.val / 2) + y0.val, by omega⟩ ⟨1024 * (t.val % 2) + y1.val, by omega⟩ y2)) ?_ ?_))
  · exact arrProj_congr _ _ _ _ rfl rfl (by show _ = _ + y2.val; dsimp only; omega)
  · blk_ext [h4]

/-- The query array after the call. -/
theorem arr0_5 : (dat0 V c).arrAt 5 cfg0.N = byBatch (V c main_arg0) (V c main_v0) (V c main_v2) (V c main_v5) 128 (by decide) := by
  refine (dat0 V c).arrAt_eq_of_covers 5 (byBatch (V c main_arg0) (V c main_v0) (V c main_v2) (V c main_v5) 128 (by decide)) (by decide +kernel) fun t hf y => ?_
  have ht : t.val < 16 := Nat.lt_of_lt_of_eq t.isLt N_0
  obtain ⟨-, -, -, -, h4, h5, -, -⟩ := idx0 t
  blk_simp
  rw [after0_5]
  idx_vars y
  refine (out0_5_at _ _ _ _ y0 y1 y2).trans ((blkProj_eq V c t ht y0 y1 _).trans (Eq.trans (b := byBatch (V c main_arg0) (V c main_v0)
    (V c main_v2) (V c main_v5) 128 (by decide) (ix3 ⟨2 * (t.val / 2) + y0.val, by omega⟩ ⟨1024 * (t.val % 2) + y1.val, by omega⟩ y2)) ?_ ?_))
  · exact arrProj_congr _ _ _ _ rfl rfl rfl
  · blk_ext [h5]

/-- The value array after the call. -/
theorem arr0_6 : (dat0 V c).arrAt 6 cfg0.N = byTime (V c main_arg0) (V c main_v0) (V c main_v2) (V c main_v5) 64 (by decide) := by
  refine (dat0 V c).arrAt_eq_of_covers 6 (byTime (V c main_arg0) (V c main_v0) (V c main_v2) (V c main_v5) 64 (by decide)) (by decide +kernel) fun t hf y => ?_
  have ht : t.val < 16 := Nat.lt_of_lt_of_eq t.isLt N_0
  obtain ⟨-, -, -, -, -, -, h6, h7⟩ := idx0 t
  blk_simp
  rw [after0_6]
  idx_vars y
  refine Eq.trans (b := byTime (V c main_arg0) (V c main_v0) (V c main_v2) (V c main_v5) 64 (by decide)
    (ix2 ⟨1024 * (t.val % 2) + y0.val, by omega⟩ ⟨128 * (t.val / 2) + y1.val, by omega⟩)) ?_ ?_
  · have hy : y1 = ⟨(⟨y1.val / 64, by omega⟩ : Fin 2).val * 64 + (⟨y1.val % 64, by omega⟩ : Fin 64).val, by dsimp only; omega⟩ :=
      Fin.ext (by dsimp only; omega)
    refine (congrArg (fun z : Fin 128 => out0_6 (iblk0 V c 0 t) (iblk0 V c 1 t) (iblk0 V c 2 t) (iblk0 V c 3 t) (ix2 y0 z)) hy).trans
      ((out0_6_at _ _ _ _ ⟨y1.val / 64, by omega⟩ y0 ⟨y1.val % 64, by omega⟩).trans ((blkProj_eq V c t ht _ y0 _).trans ?_))
    exact arrProj_congr _ _ _ _ (by show _ = (128 * (t.val / 2) + y1.val) / 64; dsimp only; omega) rfl
      (by show _ = 64 + (128 * (t.val / 2) + y1.val) % 64; dsimp only; omega)
  · blk_ext [h6]

/-- The gate array after the call. -/
theorem arr0_7 : (dat0 V c).arrAt 7 cfg0.N = byTime (V c main_arg0) (V c main_v0) (V c main_v2) (V c main_v5) 192 (by decide) := by
  refine (dat0 V c).arrAt_eq_of_covers 7 (byTime (V c main_arg0) (V c main_v0) (V c main_v2) (V c main_v5) 192 (by decide)) (by decide +kernel) fun t hf y => ?_
  have ht : t.val < 16 := Nat.lt_of_lt_of_eq t.isLt N_0
  obtain ⟨-, -, -, -, -, -, h6, h7⟩ := idx0 t
  blk_simp
  rw [after0_7]
  idx_vars y
  refine Eq.trans (b := byTime (V c main_arg0) (V c main_v0) (V c main_v2) (V c main_v5) 192 (by decide)
    (ix2 ⟨1024 * (t.val % 2) + y0.val, by omega⟩ ⟨128 * (t.val / 2) + y1.val, by omega⟩)) ?_ ?_
  · have hy : y1 = ⟨(⟨y1.val / 64, by omega⟩ : Fin 2).val * 64 + (⟨y1.val % 64, by omega⟩ : Fin 64).val, by dsimp only; omega⟩ :=
      Fin.ext (by dsimp only; omega)
    refine (congrArg (fun z : Fin 128 => out0_7 (iblk0 V c 0 t) (iblk0 V c 1 t) (iblk0 V c 2 t) (iblk0 V c 3 t) (ix2 y0 z)) hy).trans
      ((out0_7_at _ _ _ _ ⟨y1.val / 64, by omega⟩ y0 ⟨y1.val % 64, by omega⟩).trans ((blkProj_eq V c t ht _ y0 _).trans ?_))
    exact arrProj_congr _ _ _ _ (by show _ = (128 * (t.val / 2) + y1.val) / 64; dsimp only; omega) rfl
      (by show _ = 192 + (128 * (t.val / 2) + y1.val) % 64; dsimp only; omega)
  · blk_ext [h7]

end Cert.KernelIdeal.Hand

end
-- ==== Proof.KernelValue.lean ====
/-
  What the idealized kernel's two results hold, entry by entry: the cells' outputs times the output weights, and the
  cells' states after the last step, of the nine arguments.
-/
module

public import proofs.«01_k».proof.Proof.Host
public import proofs.«01_k».proof.Proof.ProjValue

@[expose] public section

set_option maxRecDepth 16384

noncomputable section

namespace Cert.KernelIdeal.Hand

open Cert.KernelIdeal.Gen
open Idealize.ShloMosaic Idealize.ShloMosaic.TcCoe

/-- With the input weights transposed, a row times them is the cell's projection before the nonlinearity. -/
theorem arrInner_eq (X : Vec Ideal S16x2048x1024 .f32) (A1 Wi : Vec Ideal S1024x1024 .f32)
    (h1 : ∀ e x : Fin 1024, A1 (ix2 x e) = Wi (ix2 e x)) (b : Fin 16) (n : Fin 2048) (e : Fin 1024) :
    arrInner X A1 b n e = Cert.Cell.inner X Wi b n e := by
  unfold arrInner Cert.Cell.inner
  exact Finset.sum_congr rfl fun x _ => congrArg (X (ix3 b n x) * ·) (h1 e x)

/-- Where column `p` of the stacked weights is row `i` of the matrix `P`, column `p` of the projections is `P`'s, plus the bias. -/
theorem arrProj_eq (X : Vec Ideal S16x2048x1024 .f32) (A1 Wi : Vec Ideal S1024x1024 .f32) (A2 : Vec Ideal S1024x256 .f32) (A3 : Vec Ideal S1x256 .f32)
    (P : Vec Ideal S64x1024 .f32) (h1 : ∀ e x : Fin 1024, A1 (ix2 x e) = Wi (ix2 e x)) (p : Fin 256) (i : Fin 64)
    (h2 : ∀ e : Fin 1024, A2 (ix2 e p) = P (ix2 i e)) (β : EReal) (h3 : A3 (ix2 0 p) = β) (b : Fin 16) (n : Fin 2048) :
    arrProj X A1 A2 A3 b n p = Cert.Cell.proj X Wi P b n.val i + β := by
  rw [Cert.Cell.proj_at]
  unfold arrProj
  simp only [arrInner_eq X A1 Wi h1, h2, h3]
  exact congrArg (· + β) (Finset.sum_congr rfl fun e _ => mul_comm _ _)

variable (m : (ℓ : Loc nD τ sig) → Buf (Elt Ideal) ℓ) (ρ : Dev nD → PrngReg) (c : Dev nD)

/-- The arguments. -/
abbrev aX : Vec Ideal S16x2048x1024 .f32 := m ((c : Thread nD τ).loc main_arg0)
abbrev aIn : Vec Ideal S1024x1024 .f32 := m ((c : Thread nD τ).loc main_arg1)
abbrev aK : Vec Ideal S64x1024 .f32 := m ((c : Thread nD τ).loc main_arg2)
abbrev aV : Vec Ideal S64x1024 .f32 := m ((c : Thread nD τ).loc main_arg3)
abbrev aQ : Vec Ideal S64x1024 .f32 := m ((c : Thread nD τ).loc main_arg4)
abbrev aA : Vec Ideal S64x1024 .f32 := m ((c : Thread nD τ).loc main_arg5)
abbrev aD : Vec Ideal S64 .f32 := m ((c : Thread nD τ).loc main_arg6)
abbrev aB : Vec Ideal S64 .f32 := m ((c : Thread nD τ).loc main_arg7)
abbrev aOut : Vec Ideal S1024x64 .f32 := m ((c : Thread nD τ).loc main_arg8)

/-- The projections of the arguments by the stacked weights and the bias row call 0 gets. -/
theorem proj_args (P : Vec Ideal S64x1024 .f32) (p : Fin 256) (i : Fin 64) (β : EReal)
    (h2 : ∀ e : Fin 1024, (V1 m ρ c main_v2 : Vec Ideal S1024x256 .f32) (ix2 e p) = P (ix2 i e))
    (h3 : (V1 m ρ c main_v5 : Vec Ideal S1x256 .f32) (ix2 0 p) = β) (b : Fin 16) (n : Fin 2048) :
    arrProj (V1 m ρ c main_arg0) (V1 m ρ c main_v0) (V1 m ρ c main_v2) (V1 m ρ c main_v5) b n p
      = Cert.Cell.proj (aX m c) (aIn m c) P b n.val i + β := by
  have e0 : (V1 m ρ c main_arg0 : Vec Ideal S16x2048x1024 .f32) = aX m c := W1_args m ρ c main_arg0 (by decide)
  rw [e0]
  exact arrProj_eq (aX m c) _ (aIn m c) _ _ P (fun e x => host_v0 (W0 m ρ c) e x) p i h2 β h3 b n

/-- Call 0's four results, as call 1 finds them. -/
theorem v6_0 : W2 m ρ c (Proc.devRef .tc main_v6_0) = byBatch (V1 m ρ c main_arg0) (V1 m ρ c main_v0) (V1 m ρ c main_v2) (V1 m ρ c main_v5) 0 (by decide) :=
  (W2_arr m ρ c 4).trans (arr0_4 (V1 m ρ) c)
theorem v6_1 : W2 m ρ c (Proc.devRef .tc main_v6_1) = byBatch (V1 m ρ c main_arg0) (V1 m ρ c main_v0) (V1 m ρ c main_v2) (V1 m ρ c main_v5) 128 (by decide) :=
  (W2_arr m ρ c 5).trans (arr0_5 (V1 m ρ) c)
theorem v6_2 : W2 m ρ c (Proc.devRef .tc main_v6_2) = byTime (V1 m ρ c main_arg0) (V1 m ρ c main_v0) (V1 m ρ c main_v2) (V1 m ρ c main_v5) 64 (by decide) :=
  (W2_arr m ρ c 6).trans (arr0_6 (V1 m ρ) c)
theorem v6_3 : W2 m ρ c (Proc.devRef .tc main_v6_3) = byTime (V1 m ρ c main_arg0) (V1 m ρ c main_v0) (V1 m ρ c main_v2) (V1 m ρ c main_v5) 192 (by decide) :=
  (W2_arr m ρ c 7).trans (arr0_7 (V1 m ρ) c)

/-- What call 1's operands hold. -/
theorem operands : Operands (V3 m ρ c main_v9) (V3 m ρ c main_v12) (V3 m ρ c main_v6_2) (V3 m ρ c main_v6_3) (V3 m ρ c main_v16) (V3 m ρ c main_v24)
    (fun i => aD m c (ix1 i)) (fun i => aB m c (ix1 i)) (Cert.Cell.proj (aX m c) (aIn m c) (aK m c)) (Cert.Cell.proj (aX m c) (aIn m c) (aV m c))
    (Cert.Cell.proj (aX m c) (aIn m c) (aQ m c)) (Cert.Cell.proj (aX m c) (aIn m c) (aA m c)) := by
  constructor
  · intro h n b j
    refine (host_v9 (W2 m ρ c) h n b j).trans ((congrFun (v6_0 m ρ c) (ix3 ⟨8 * h.val + b.val, by omega⟩ n j)).trans ?_)
    refine (arrProj_congr (p' := ⟨j.val, by omega⟩) _ _ _ _ rfl rfl (Nat.zero_add _)).trans
      ((proj_args m ρ c (aK m c) _ j 0 (fun e => host_v2_k (W0 m ρ c) e j) (host_v5_zero (W0 m ρ c) ⟨j.val, by omega⟩) _ _).trans (add_zero _))
  · intro h n b j
    refine (host_v12 (W2 m ρ c) h n b j).trans ((congrFun (v6_1 m ρ c) (ix3 ⟨8 * h.val + b.val, by omega⟩ n j)).trans ?_)
    exact (proj_args m ρ c (aQ m c) ⟨128 + j.val, by omega⟩ j 0 (fun e => host_v2_q (W0 m ρ c) e j) (host_v5_zero (W0 m ρ c) ⟨128 + j.val, by omega⟩) _ _).trans (add_zero _)
  · intro n b i
    have e : V3 m ρ c main_v6_2 = _ := (W3_of m ρ c main_v6_2 (by decide)).trans (v6_2 m ρ c)
    refine (congrFun e (ix2 n ⟨b.val * 64 + i.val, by omega⟩)).trans ?_
    refine (arrProj_congr (b' := b) (n' := n) (p' := ⟨64 + i.val, by omega⟩) _ _ _ _ ?_ rfl ?_).trans
      ((proj_args m ρ c (aV m c) _ i 0 (fun e => host_v2_v (W0 m ρ c) e i) (host_v5_zero (W0 m ρ c) ⟨64 + i.val, by omega⟩) _ _).trans (add_zero _))
    · show (b.val * 64 + i.val) / 64 = b.val; omega
    · show 64 + (b.val * 64 + i.val) % 64 = 64 + i.val; omega
  · intro n b i
    have e : V3 m ρ c main_v6_3 = _ := (W3_of m ρ c main_v6_3 (by decide)).trans (v6_3 m ρ c)
    refine (congrFun e (ix2 n ⟨b.val * 64 + i.val, by omega⟩)).trans ?_
    refine (arrProj_congr (b' := b) (n' := n) (p' := ⟨192 + i.val, by omega⟩) _ _ _ _ ?_ rfl ?_).trans
      (proj_args m ρ c (aA m c) _ i _ (fun e => host_v2_a (W0 m ρ c) e i) (host_v5_a (W0 m ρ c) i) _ _)
    · show (b.val * 64 + i.val) / 64 = b.val; omega
    · show 192 + (b.val * 64 + i.val) % 64 = 192 + i.val; omega
  · intro b i
    exact (host_v16 (W2 m ρ c) b i).trans (congrFun (W2_args m ρ c main_arg6 (by decide)) (ix1 i))
  · intro b l
    exact host_v24 (W2 m ρ c) b l

/-- The first result: at batch `b`, time `t`, the cell's output times row `e` of the output weights. -/
def kernelOut : Vec Ideal S16x2048x1024 .f32 := fun y =>
  ∑ n : Fin 64, Cert.Cell.outputOf (aX m c) (aIn m c) (aK m c) (aV m c) (aQ m c) (aA m c) (aD m c) (aB m c) (y 0) (y 1).val n * aOut m c (ix2 (y 2) n)

/-- The second result: the cell's state after the last step. -/
def kernelState : Vec Ideal S16x64x64 .f32 := fun y =>
  Cert.Cell.stateOf (aX m c) (aIn m c) (aK m c) (aV m c) (aA m c) (aD m c) (aB m c) (y 0) 2048 (y 1) (y 2)

theorem out_eq : (dat1 (V3 m ρ) c).arrAt 7 cfg1.N = kernelOut m c := by
  rw [arr7 (V3 m ρ) c (operands m ρ c)]
  funext y
  unfold outArr kernelOut
  refine Finset.sum_congr rfl fun n _ => congrArg₂ (fun p q : EReal => p * q) rfl ?_
  exact (host_v25 (W2 m ρ c) (y 2) n).trans (congrFun (W2_args m ρ c main_arg8 (by decide)) (ix2 (y 2) n))

theorem state_eq : (dat1 (V3 m ρ) c).arrAt 8 cfg1.N = kernelState m c :=
  arr8 (V3 m ρ) c (operands m ρ c)

end Cert.KernelIdeal.Hand

end
-- ==== Proof.RefStep.lean ====
/-
  One trip of the reference's loop at an entry: the projections' rows it reads, the new state and the output row it
  writes are the cell's.
-/
module

public import proofs.«01_k».proof.Proof.Cell
public import proofs.«01_k».proof.Proof.Gen.ReferenceIdeal.Run
public import Idealize.ShloMosaic.Lib.StableHlo.ReadAt
public import Idealize.ShloMosaic.Lib.DynamicIndex

@[expose] public section

set_option maxRecDepth 16384

noncomputable section

namespace Cert.ReferenceIdeal.Hand

open Cert.ReferenceIdeal.Gen Cert.ReferenceIdeal.Value
open Idealize.ShloMosaic Idealize.ShloMosaic.TcCoe

/-- The slice's starts: the counter, and two zeros. -/
abbrev starts (ctr : (⟨S_, .i32⟩ : BufTy).Contents (Elt Ideal)) : Fin 3 → Int :=
  fun k => (((![ctr, constantI S_ 32 0#32, constantI S_ 32 0#32] : Fin 3 → (⟨S_, .i32⟩ : BufTy).Contents (Elt Ideal))) k (Shape.Idx.first h_S_)).toInt

/-- Row `n` of a time-major projection. -/
def rowOf (A : Vec Ideal S2048x16x64 .f32) (n : Fin 2048) : Vec Ideal S16x64 .f32 := fun y => A (ix3 n (y 0) (y 1))

/-- With the counter at `n`, each start is the number it says. -/
theorem starts_eq (n : Fin 2048) (a : Fin 3) : starts (fun _ => BitVec.ofNat 32 n.val) a = (((![n.val, 0, 0] : Fin 3 → ℕ) a : ℕ) : Int) := by
  fin_cases a
  · exact toInt_ofNat_of_lt (by have := n.isLt; omega)
  · rfl
  · rfl

/-- With the counter at `n`, the row read is row `n`. -/
theorem row_eq (A : Vec Ideal S2048x16x64 .f32) (n : Fin 2048) :
    (shapeCast S16x64 (Host.dynamicSlice S1x16x64 A (starts fun _ => BitVec.ofNat 32 n.val) sliceFits_S2048x16x64_S1x16x64) shapeCasts_S1x16x64_S16x64 : Vec Ideal S16x64 .f32)
      = rowOf A n := by
  have hk : Shape.Slices S2048x16x64 (![n.val, 0, 0] : Fin 3 → ℕ) S1x16x64 := ⟨rfl, fun a => by
    have := n.isLt
    fin_cases a
    · show n.val + 1 ≤ 2048; omega
    · show 0 + 16 ≤ 16; omega
    · show 0 + 64 ≤ 64; omega⟩
  rw [Host.dynamicSlice_eq_extractStridedSlice _ _ _ _ _ hk (starts_eq n)]
  funext y
  pointwise [rowOf]

/-- The same, of any counter that says `n`. -/
theorem read_row (A : Vec Ideal S2048x16x64 .f32) (ctr : (⟨S_, .i32⟩ : BufTy).Contents (Elt Ideal)) (n : Fin 2048)
    (hc : ctr = fun _ => BitVec.ofNat 32 n.val) :
    (shapeCast S16x64 (Host.dynamicSlice S1x16x64 A (fun k => (((![ctr, constantI S_ 32 0#32, constantI S_ 32 0#32] : Fin 3 → (⟨S_, .i32⟩ : BufTy).Contents (Elt Ideal))) k (Shape.Idx.first h_S_)).toInt)
      sliceFits_S2048x16x64_S1x16x64) shapeCasts_S1x16x64_S16x64 : Vec Ideal S16x64 .f32) = rowOf A n := by
  subst hc
  exact row_eq A n

/-- With the counter at `n`, the block written is row `n`. -/
theorem put_at (A : Vec Ideal S2048x16x64 .f32) (u : Vec Ideal S1x16x64 .f32) (n t : Fin 2048) (b : Fin 16) (i : Fin 64) :
    (Host.dynamicUpdateSlice A u (starts fun _ => BitVec.ofNat 32 n.val) updateFits_S2048x16x64_S1x16x64 : Vec Ideal S2048x16x64 .f32) (ix3 t b i)
      = if t = n then u (ix3 0 b i) else A (ix3 t b i) := by
  rw [Host.dynamicUpdateSlice_eq_updateSlice A u _ _ ![n.val, 0, 0] (fun a => by
    have := n.isLt
    rw [starts_eq n a]
    fin_cases a
    · show (min (max ((n.val : ℕ) : Int) 0) ((2048 - 1 : ℕ) : Int)).toNat = n.val; omega
    · show (min (max ((0 : ℕ) : Int) 0) ((16 - 16 : ℕ) : Int)).toNat = 0; omega
    · show (min (max ((0 : ℕ) : Int) 0) ((64 - 64 : ℕ) : Int)).toNat = 0; omega)
    ⟨rfl, fun a => by
      have := n.isLt
      fin_cases a
      · show n.val + 1 ≤ 2048; omega
      · show 0 + 16 ≤ 16; omega
      · show 0 + 64 ≤ 64; omega⟩]
  pointwise
  by_cases h : t = n
  · subst h
    rw [if_pos rfl, dif_pos ⟨le_refl _, Nat.lt_succ_self _⟩]
    exact congrArg (fun r => u (ix3 r b i)) (Fin.ext (Nat.sub_self _))
  · rw [if_neg h, dif_neg fun hn => h (Fin.ext (by omega))]

/-- What the loop's buffers hold before a trip `n`. -/
structure Carried (V : Valuation τ sig (Elt Ideal)) (n : Fin 2048) (d bias : Fin 64 → EReal) (k v q ax : Fin 16 → Fin 64 → EReal) (S : Fin 16 → Fin 64 → Fin 64 → EReal) : Prop where
  ctr : V (Proc.devRef .tc main_v12_6) = fun _ => BitVec.ofNat 32 n.val
  key : ∀ (b : Fin 16) (j : Fin 64), (V (Proc.devRef .tc main_v12_0) : Vec Ideal S2048x16x64 .f32) (ix3 n b j) = k b j
  value : ∀ (b : Fin 16) (j : Fin 64), (V (Proc.devRef .tc main_v12_1) : Vec Ideal S2048x16x64 .f32) (ix3 n b j) = v b j
  query : ∀ (b : Fin 16) (j : Fin 64), (V (Proc.devRef .tc main_v12_2) : Vec Ideal S2048x16x64 .f32) (ix3 n b j) = q b j
  pre : ∀ (b : Fin 16) (j : Fin 64), (V (Proc.devRef .tc main_v12_3) : Vec Ideal S2048x16x64 .f32) (ix3 n b j) = ax b j
  scale : ∀ i : Fin 64, (V (Proc.devRef .tc main_v12_4) : Vec Ideal S64 .f32) (ix1 i) = d i
  shift : ∀ i : Fin 64, (V (Proc.devRef .tc main_v12_5) : Vec Ideal S64 .f32) (ix1 i) = bias i
  state : ∀ (b : Fin 16) (i j : Fin 64), (V (Proc.devRef .tc main_v12_7) : Vec Ideal S16x64x64 .f32) (ix3 b i j) = S b i j

section
variable {V : Valuation τ sig (Elt Ideal)} {n : Fin 2048} {d bias : Fin 64 → EReal} {k v q ax : Fin 16 → Fin 64 → EReal}
  {S : Fin 16 → Fin 64 → Fin 64 → EReal} (H : Carried V n d bias k v q ax S)
include H

theorem keyRow : res_main_while0b_v15 V = rowOf (V (Proc.devRef .tc main_v12_0)) n :=
  read_row (V (Proc.devRef .tc main_v12_0)) (V (Proc.devRef .tc main_v12_6)) n H.ctr

/-- The gate. -/
theorem gate_at (b : Fin 16) (i : Fin 64) :
    (res_main_while0b_v33 V : Vec Ideal S16x64x1 .f32) (ix3 b i 0) = Cert.Cell.gate d bias (k b) (ax b) (S b) i := by
  unfold res_main_while0b_v33
  rw [keyRow H]
  clean_types
  rw [read_row (V (Proc.devRef .tc main_v12_3)) (V (Proc.devRef .tc main_v12_6)) n H.ctr]
  pointwise [rowOf]
  simp only [H.key, H.pre, H.scale, H.shift, H.state]
  rfl

/-- The new state. -/
theorem state_at (b : Fin 16) (i j : Fin 64) :
    (res_main_while0b_v45 V : Vec Ideal S16x64x64 .f32) (ix3 b i j) = Cert.Cell.step d bias (k b) (v b) (ax b) (S b) i j := by
  unfold res_main_while0b_v45
  rw [keyRow H]
  clean_types
  rw [read_row (V (Proc.devRef .tc main_v12_1)) (V (Proc.devRef .tc main_v12_6)) n H.ctr]
  pointwise [rowOf]
  simp only [H.key, H.value, H.state, gate_at H]
  rfl

/-- The new state times the query. -/
theorem read_at (b : Fin 16) (i : Fin 64) :
    (res_main_while0b_v46 V : Vec Ideal S16x64 .f32) (ix2 b i) = ∑ j : Fin 64, Cert.Cell.step d bias (k b) (v b) (ax b) (S b) i j * q b j := by
  unfold res_main_while0b_v46
  clean_types
  rw [read_row (V (Proc.devRef .tc main_v12_2)) (V (Proc.devRef .tc main_v12_6)) n H.ctr]
  pointwise [rowOf]
  simp only [H.query, state_at H]

/-- The carried state after the trip. -/
theorem next_state (b : Fin 16) (i j : Fin 64) :
    (step_main_v12_7 V : Vec Ideal S16x64x64 .f32) (ix3 b i j) = Cert.Cell.step d bias (k b) (v b) (ax b) (S b) i j :=
  state_at H b i j

/-- The carried outputs after the trip: row `n` is the cell's output, every other row is kept. -/
theorem next_outs (t : Fin 2048) (b : Fin 16) (i : Fin 64) :
    (step_main_v12_8 V : Vec Ideal S2048x16x64 .f32) (ix3 t b i)
      = if t = n then Cert.Cell.out (q b) (Cert.Cell.step d bias (k b) (v b) (ax b) (S b)) i
        else (V (Proc.devRef .tc main_v12_8) : Vec Ideal S2048x16x64 .f32) (ix3 t b i) := by
  unfold step_main_v12_8
  rw [H.ctr]
  refine (put_at _ _ n t b i).trans (if_congr Iff.rfl ?_ rfl)
  pointwise
  simp only [read_at H]
  rfl

/-- The counter after the trip. -/
theorem next_ctr : step_main_v12_6 V = fun _ => BitVec.ofNat 32 (n.val + 1) := by
  unfold step_main_v12_6
  rw [H.ctr]
  funext y
  show BitVec.ofNat 32 n.val + 1#32 = BitVec.ofNat 32 (n.val + 1)
  exact (BitVec.ofNat_add n.val 1).symm

end

end Cert.ReferenceIdeal.Hand

end
-- ==== Proof.RefValue.lean ====
/-
  What the reference's two results hold, entry by entry: before trip `n` the loop carries the cell's state and the
  outputs of the steps so far.
-/
module

public import proofs.«01_k».proof.Proof.RefStep

@[expose] public section

set_option maxRecDepth 65536

noncomputable section

namespace Cert.ReferenceIdeal.Hand

open Cert.ReferenceIdeal.Gen Cert.ReferenceIdeal.Value
open Idealize.ShloMosaic Idealize.ShloMosaic.TcCoe
open Idealize.ShloMosaic.StableHlo

variable (m : (ℓ : Loc nD τ sig) → Buf (Elt Ideal) ℓ) (c : Dev nD)

/-- The arguments. -/
abbrev aX : Vec Ideal S16x2048x1024 .f32 := m ((c : Thread nD τ).loc main_arg0)
abbrev aIn : Vec Ideal S1024x1024 .f32 := m ((c : Thread nD τ).loc main_arg1)
abbrev aK : Vec Ideal S64x1024 .f32 := m ((c : Thread nD τ).loc main_arg2)
abbrev aV : Vec Ideal S64x1024 .f32 := m ((c : Thread nD τ).loc main_arg3)
abbrev aQ : Vec Ideal S64x1024 .f32 := m ((c : Thread nD τ).loc main_arg4)
abbrev aA : Vec Ideal S64x1024 .f32 := m ((c : Thread nD τ).loc main_arg5)
abbrev aD : Vec Ideal S64 .f32 := m ((c : Thread nD τ).loc main_arg6)
abbrev aB : Vec Ideal S64 .f32 := m ((c : Thread nD τ).loc main_arg7)
abbrev aOut : Vec Ideal S1024x64 .f32 := m ((c : Thread nD τ).loc main_arg8)

/-- `silu`, entry by entry. -/
def siluOf (I : FVec Ideal S16x2048x1024 .f32) : FVec Ideal S16x2048x1024 .f32 :=
  mulf I (Host.divf (broadcastInDim S16x2048x1024 ![] bcast_S_S16x2048x1024 (constant S_ .f32 0x3F800000#32))
    (addf (broadcastInDim S16x2048x1024 ![] bcast_S_S16x2048x1024 (constant S_ .f32 0x3F800000#32)) (Host.exp (Host.negf I))))

/-- `silu` of the input times the input weights, times a 64-row matrix, with time first. -/
def projOf (X : FVec Ideal S16x2048x1024 .f32) (W : FVec Ideal S1024x1024 .f32) (P : FVec Ideal S64x1024 .f32) : FVec Ideal S2048x16x64 .f32 :=
  transpose (α := Ideal .f32) S2048x16x64 [2, 1, 0]
    (Host.dotGeneral dot_S64x1024_S16x2048x1024_S64x16x2048_1_2_0_01_n_n none P
      (siluOf (Host.dotGeneral dot_S16x2048x1024_S1024x1024_S16x2048x1024_2_1_01_0_n_n none X W)))
    transposes_S64x16x2048_S2048x16x64_2_1_0

/-- An entry of it is the cell's projection. -/
theorem proj_read (X : FVec Ideal S16x2048x1024 .f32) (W : FVec Ideal S1024x1024 .f32) (P : FVec Ideal S64x1024 .f32)
    (n : Fin 2048) (b : Fin 16) (j : Fin 64) : projOf X W P (ix3 n b j) = Cert.Cell.proj X W P b n.val j := by
  rw [Cert.Cell.proj_at]
  pointwise [projOf, siluOf]
  rfl

/-- What the loop finds. -/
theorem entry_key (n : Fin 2048) (b : Fin 16) (j : Fin 64) :
    (entryContents preI m c (Proc.devRef .tc main_v12_0) : Vec Ideal S2048x16x64 .f32) (ix3 n b j) = Cert.Cell.proj (aX m c) (aIn m c) (aK m c) b n.val j := by
  simp only [entryContents, afterL_cons, afterL_nil]
  after_reads_simp
  exact proj_read (aX m c) (aIn m c) (aK m c) n b j

theorem entry_value (n : Fin 2048) (b : Fin 16) (j : Fin 64) :
    (entryContents preI m c (Proc.devRef .tc main_v12_1) : Vec Ideal S2048x16x64 .f32) (ix3 n b j) = Cert.Cell.proj (aX m c) (aIn m c) (aV m c) b n.val j := by
  simp only [entryContents, afterL_cons, afterL_nil]
  after_reads_simp
  exact proj_read (aX m c) (aIn m c) (aV m c) n b j

theorem entry_query (n : Fin 2048) (b : Fin 16) (j : Fin 64) :
    (entryContents preI m c (Proc.devRef .tc main_v12_2) : Vec Ideal S2048x16x64 .f32) (ix3 n b j) = Cert.Cell.proj (aX m c) (aIn m c) (aQ m c) b n.val j := by
  simp only [entryContents, afterL_cons, afterL_nil]
  after_reads_simp
  exact proj_read (aX m c) (aIn m c) (aQ m c) n b j

theorem entry_pre (n : Fin 2048) (b : Fin 16) (j : Fin 64) :
    (entryContents preI m c (Proc.devRef .tc main_v12_3) : Vec Ideal S2048x16x64 .f32) (ix3 n b j) = Cert.Cell.proj (aX m c) (aIn m c) (aA m c) b n.val j := by
  simp only [entryContents, afterL_cons, afterL_nil]
  after_reads_simp
  exact proj_read (aX m c) (aIn m c) (aA m c) n b j

theorem entry_scale : entryContents preI m c (Proc.devRef .tc main_v12_4) = aD m c := by
  simp only [entryContents, afterL_cons, afterL_nil]
  after_reads_simp
  rfl

theorem entry_shift : entryContents preI m c (Proc.devRef .tc main_v12_5) = aB m c := by
  simp only [entryContents, afterL_cons, afterL_nil]
  after_reads_simp
  rfl

theorem zero_at (b : Fin 16) (i j : Fin 64) :
    (broadcastInDim (α := Ideal .f32) S16x64x64 ![] bcast_S_S16x64x64 (constant S_ .f32 0x00000000#32)) (ix3 b i j) = (0 : EReal) := by
  pointwise

theorem entry_state (b : Fin 16) (i j : Fin 64) : (entryContents preI m c (Proc.devRef .tc main_v12_7) : Vec Ideal S16x64x64 .f32) (ix3 b i j) = (0 : EReal) := by
  simp only [entryContents, afterL_cons, afterL_nil]
  after_reads_simp
  exact zero_at b i j

/-- The buffers no trip writes, before trip `n`. -/
theorem iter_keeps (V : Valuation τ sig (Elt Ideal)) (r : Ref sig .tc) (h : ∀ U : Valuation τ sig (Elt Ideal), STEP U (Proc.devRef .tc r) = U (Proc.devRef .tc r)) (n : ℕ) :
    (STEP^[n] V) (Proc.devRef .tc r) = V (Proc.devRef .tc r) := by
  induction n with
  | zero => rfl
  | succ n ih => rw [Function.iterate_succ_apply']; exact (h _).trans ih

/-- The loop's buffers before trip `n`. -/
abbrev before (n : ℕ) : Valuation τ sig (Elt Ideal) := STEP^[n] (entryContents preI m c)

/-- The buffers before trip `n`, of the counter and the state before it. -/
theorem carried (n : Fin 2048) (hc : before m c n.val (Proc.devRef .tc main_v12_6) = fun _ => BitVec.ofNat 32 n.val) (S : Fin 16 → Fin 64 → Fin 64 → EReal)
    (hS : ∀ (b : Fin 16) (i j : Fin 64), (before m c n.val (Proc.devRef .tc main_v12_7) : Vec Ideal S16x64x64 .f32) (ix3 b i j) = S b i j) :
    Carried (before m c n.val) n (fun i => aD m c (ix1 i)) (fun i => aB m c (ix1 i)) (fun b => Cert.Cell.proj (aX m c) (aIn m c) (aK m c) b n.val)
      (fun b => Cert.Cell.proj (aX m c) (aIn m c) (aV m c) b n.val) (fun b => Cert.Cell.proj (aX m c) (aIn m c) (aQ m c) b n.val)
      (fun b => Cert.Cell.proj (aX m c) (aIn m c) (aA m c) b n.val) S where
  ctr := hc
  key b j := (congrFun (iter_keeps _ main_v12_0 STEP_main_v12_0 n.val) (ix3 n b j)).trans (entry_key m c n b j)
  value b j := (congrFun (iter_keeps _ main_v12_1 STEP_main_v12_1 n.val) (ix3 n b j)).trans (entry_value m c n b j)
  query b j := (congrFun (iter_keeps _ main_v12_2 STEP_main_v12_2 n.val) (ix3 n b j)).trans (entry_query m c n b j)
  pre b j := (congrFun (iter_keeps _ main_v12_3 STEP_main_v12_3 n.val) (ix3 n b j)).trans (entry_pre m c n b j)
  scale i := congrFun ((iter_keeps _ main_v12_4 STEP_main_v12_4 n.val).trans (entry_scale m c)) (ix1 i)
  shift i := congrFun ((iter_keeps _ main_v12_5 STEP_main_v12_5 n.val).trans (entry_shift m c)) (ix1 i)
  state := hS

/-- The cell's state and output of the arguments. -/
abbrev cellState (b : Fin 16) (n : ℕ) (i j : Fin 64) : EReal :=
  Cert.Cell.stateOf (aX m c) (aIn m c) (aK m c) (aV m c) (aA m c) (aD m c) (aB m c) b n i j
abbrev cellOutput (b : Fin 16) (n : ℕ) (i : Fin 64) : EReal :=
  Cert.Cell.outputOf (aX m c) (aIn m c) (aK m c) (aV m c) (aQ m c) (aA m c) (aD m c) (aB m c) b n i

/-- THE INVARIANT: before trip `n` the counter says `n`, the state is the cell's, and the rows before `n` hold the cell's outputs. -/
theorem invariant (n : ℕ) (hn : n ≤ 2048) :
    before m c n (Proc.devRef .tc main_v12_6) = (fun _ => BitVec.ofNat 32 n)
    ∧ (∀ (b : Fin 16) (i j : Fin 64), (before m c n (Proc.devRef .tc main_v12_7) : Vec Ideal S16x64x64 .f32) (ix3 b i j) = cellState m c b n i j)
    ∧ ∀ (t : Fin 2048) (b : Fin 16) (i : Fin 64), t.val < n → (before m c n (Proc.devRef .tc main_v12_8) : Vec Ideal S2048x16x64 .f32) (ix3 t b i) = cellOutput m c b t.val i := by
  induction n with
  | zero => exact ⟨ctr_entry m c, fun b i j => entry_state m c b i j, fun t b i h => absurd h (Nat.not_lt_zero _)⟩
  | succ n ih =>
    obtain ⟨hc, hS, hO⟩ := ih (by omega)
    have H := carried m c ⟨n, by omega⟩ hc (fun b => cellState m c b n) hS
    have e : before m c (n + 1) = STEP (before m c n) := Function.iterate_succ_apply' STEP n _
    rw [e]
    refine ⟨(STEP_main_v12_6 _).trans (next_ctr H), fun b i j => (congrFun (STEP_main_v12_7 _) (ix3 b i j)).trans (next_state H b i j), fun t b i ht => ?_⟩
    refine (congrFun (STEP_main_v12_8 _) (ix3 t b i)).trans ((next_outs H t b i).trans ?_)
    by_cases h : t = ⟨n, by omega⟩
    · rw [if_pos h, h]
      rfl
    · rw [if_neg h]
      exact hO t b i (by have : t.val ≠ n := fun hh => h (Fin.ext hh); omega)

/-- The first result at batch `b`, time `t`: the cell's output times row `e` of the output weights. -/
theorem out_at (b : Fin 16) (t : Fin 2048) (e : Fin 1024) :
    (out_main_v14 (before m c 2048) : Vec Ideal S16x2048x1024 .f32) (ix3 b t e) = ∑ n : Fin 64, cellOutput m c b t.val n * aOut m c (ix2 e n) := by
  unfold out_main_v14
  clean_types
  rw [show before m c 2048 (Proc.devRef .tc main_arg8) = aOut m c from iter_main_arg8 m c 2048]
  pointwise
  exact Finset.sum_congr rfl fun n _ => congrArg₂ (fun p q : EReal => p * q) ((invariant m c 2048 (le_refl _)).2.2 t b n t.isLt) rfl

/-- The second result: the cell's state after the last step. -/
theorem final_at (b : Fin 16) (i j : Fin 64) :
    (before m c 2048 (Proc.devRef .tc main_v12_7) : Vec Ideal S16x64x64 .f32) (ix3 b i j) = cellState m c b 2048 i j :=
  (invariant m c 2048 (le_refl _)).2.1 b i j

end Cert.ReferenceIdeal.Hand

end
-- ==== Proof.Value.lean ====
/-
  The two programs at the extended reals: from agreeing arguments the idealized kernel's results are the reference's.
-/
module

public import proofs.«01_k».proof.Defs
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem

local instance : Cert.KernelIdeal.Facts := Cert.KernelIdeal.Gen.facts
local instance : Cert.ReferenceIdeal.Facts := Cert.ReferenceIdeal.Gen.facts

/-- The arguments of the two programs agree on device `c`. -/
abbrev Agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.ReferenceIdeal.Hand.aX m' c = Cert.KernelIdeal.Hand.aX m c ∧ Cert.ReferenceIdeal.Hand.aIn m' c = Cert.KernelIdeal.Hand.aIn m c
  ∧ Cert.ReferenceIdeal.Hand.aK m' c = Cert.KernelIdeal.Hand.aK m c ∧ Cert.ReferenceIdeal.Hand.aV m' c = Cert.KernelIdeal.Hand.aV m c
  ∧ Cert.ReferenceIdeal.Hand.aQ m' c = Cert.KernelIdeal.Hand.aQ m c ∧ Cert.ReferenceIdeal.Hand.aA m' c = Cert.KernelIdeal.Hand.aA m c
  ∧ Cert.ReferenceIdeal.Hand.aD m' c = Cert.KernelIdeal.Hand.aD m c ∧ Cert.ReferenceIdeal.Hand.aB m' c = Cert.KernelIdeal.Hand.aB m c
  ∧ Cert.ReferenceIdeal.Hand.aOut m' c = Cert.KernelIdeal.Hand.aOut m c

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's first result is the kernel's. -/
theorem out_same (h : Agrees m m' c) :
    (Cert.ReferenceIdeal.Value.out_main_v14 (Cert.ReferenceIdeal.Hand.before m' c 2048) : Vec Ideal ⟨3, ![16, 2048, 1024]⟩ .f32) = Cert.KernelIdeal.Hand.kernelOut m c := by
  obtain ⟨h0, h1, h2, h3, h4, h5, h6, h7, h8⟩ := h
  funext y
  idx_vars y
  refine (Cert.ReferenceIdeal.Hand.out_at m' c _ _ _).trans ?_
  unfold Cert.KernelIdeal.Hand.kernelOut Cert.ReferenceIdeal.Hand.cellOutput
  rw [h0, h1, h2, h3, h4, h5, h6, h7, h8]
  rfl

/-- The reference's second result is the kernel's. -/
theorem state_same (h : Agrees m m' c) :
    (Cert.ReferenceIdeal.Hand.before m' c 2048 (Proc.devRef .tc Cert.ReferenceIdeal.main_v12_7) : Vec Ideal ⟨3, ![16, 64, 64]⟩ .f32) = Cert.KernelIdeal.Hand.kernelState m c := by
  obtain ⟨h0, h1, h2, h3, h4, h5, h6, h7, h8⟩ := h
  funext y
  idx_vars y
  refine (Cert.ReferenceIdeal.Hand.final_at m' c _ _ _).trans ?_
  unfold Cert.KernelIdeal.Hand.kernelState Cert.ReferenceIdeal.Hand.cellState
  rw [h0, h1, h2, h3, h5, h6, h7]
  rfl

end

/-- THE VALUE CLAIM: from agreeing arguments both programs end with `kernelOut` and `kernelState` of them, the arguments unchanged. -/
theorem algebraic : Cert.algebraic_KernelIdeal_ReferenceIdeal := by
  intro m g m' g' _ hag
  refine ⟨fun c => Cert.KernelIdeal.Hand.kernelOut m c, fun c => Cert.KernelIdeal.Hand.kernelState m c, ?_, ?_⟩
  · refine (θ_run Cert.KernelIdeal.defs _ _).mono (fun r h c => ?_) (Cert.KernelIdeal.Hand.results (F := Ideal) m g)
    obtain ⟨ho, hs, ha⟩ := h c
    exact ⟨ho.trans (Cert.KernelIdeal.Hand.out_eq m g c), hs.trans (Cert.KernelIdeal.Hand.state_eq m g c), ha _ (by decide), ha _ (by decide), ha _ (by decide),
      ha _ (by decide), ha _ (by decide), ha _ (by decide), ha _ (by decide), ha _ (by decide), ha _ (by decide)⟩
  · refine (θ_run Cert.ReferenceIdeal.defs _ _).mono (fun r h c => ?_) (Cert.ReferenceIdeal.Value.run (F := Ideal) m' g')
    obtain ⟨ho, hs, ha⟩ := h c
    exact ⟨ho.trans (out_same m m' c (hag c)), hs.trans (state_same m m' c (hag c)), ha⟩

end Cert.Proof

end
-- ==== Proof.lean ====
/-
  The proof of `Cert.Claim`: the three frames, the idealization of the kernel changing nothing, and the idealized kernel's
  two results being the reference's.
-/
module

public import proofs.«01_k».proof.Defs
public import proofs.«01_k».proof.Proof.Frames
public import proofs.«01_k».proof.Proof.Value
public import proofs.«01_k».proof.Proof.Gen.ReferenceIdeal.Run
public import Idealize.ShloMosaic.Adequacy
public import Idealize.ShloMosaic.Init

@[expose] public section

noncomputable section

namespace Cert.Proof

/-- Everything claimed: the frames (`Frames.lean`), the idealization (no operation was rewritten) and the values (`Value.lean`). -/
theorem claim : Cert.Claim := ⟨Cert.Kernel.Gen.facts, Cert.KernelIdeal.Gen.facts, Cert.ReferenceIdeal.Gen.facts,
  frame_kernel, frame_ideal, frame_reference, trivial, algebraic⟩

end Cert.Proof

end
